-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x14336 : Shape := ⟨3, ![3, 512, 14336]⟩
abbrev S3x32x14336 : Shape := ⟨3, ![3, 32, 14336]⟩
abbrev S688128x128 : Shape := ⟨2, ![688128, 128]⟩
abbrev S1x512x512 : Shape := ⟨3, ![1, 512, 512]⟩
abbrev S1x32x512 : Shape := ⟨3, ![1, 32, 512]⟩
abbrev S8192x128 : Shape := ⟨2, ![8192, 128]⟩
abbrev S4x144x128 : Shape := ⟨3, ![4, 144, 128]⟩
abbrev S576x128 : Shape := ⟨2, ![576, 128]⟩
abbrev S2048x128 : Shape := ⟨2, ![2048, 128]⟩
abbrev S1x8x128 : Shape := ⟨3, ![1, 8, 128]⟩
abbrev S8x128 : Shape := ⟨2, ![8, 128]⟩
abbrev S1x144x128 : Shape := ⟨3, ![1, 144, 128]⟩
abbrev S144x128 : Shape := ⟨2, ![144, 128]⟩
abbrev S128x128 : Shape := ⟨2, ![128, 128]⟩
abbrev S3x1792x32x4x128 : Shape := ⟨5, ![3, 1792, 32, 4, 128]⟩
abbrev S3x1792x32x128x4 : Shape := ⟨5, ![3, 1792, 32, 128, 4]⟩
abbrev S3x1792x4096x4 : Shape := ⟨4, ![3, 1792, 4096, 4]⟩
abbrev S3x14336x32 : Shape := ⟨3, ![3, 14336, 32]⟩

abbrev nBuf : Space → Nat
  | .hbm => 8
  | .vmem => 11
  | .smem => 0
  | _ => 0

abbrev bufTy : (tb : Table) → Fin (tcTables nBuf tb) → BufTy
  | .hbm, ⟨0, _⟩ => ⟨S3x512x14336, .i32⟩
  | .hbm, ⟨1, _⟩ => ⟨S3x32x14336, .f32⟩
  | .hbm, ⟨2, _⟩ => ⟨S688128x128, .i8⟩
  | .hbm, ⟨3, _⟩ => ⟨S3x32x14336, .f32⟩
  | .hbm, ⟨4, _⟩ => ⟨S3x1792x32x4x128, .i8⟩
  | .hbm, ⟨5, _⟩ => ⟨S3x1792x32x128x4, .i8⟩
  | .hbm, ⟨6, _⟩ => ⟨S3x1792x4096x4, .i8⟩
  | .hbm, ⟨7, _⟩ => ⟨S3x14336x32, .f32⟩
  | .local _ .vmem, ⟨0, _⟩ => ⟨S1x512x512, .i32⟩
  | .local _ .vmem, ⟨1, _⟩ => ⟨S1x512x512, .i32⟩
  | .local _ .vmem, ⟨2, _⟩ => ⟨S1x32x512, .f32⟩
  | .local _ .vmem, ⟨3, _⟩ => ⟨S1x32x512, .f32⟩
  | .local _ .vmem, ⟨4, _⟩ => ⟨S8192x128, .i8⟩
  | .local _ .vmem, ⟨5, _⟩ => ⟨S8192x128, .i8⟩
  | .local _ .vmem, ⟨6, _⟩ => ⟨S1x32x512, .f32⟩
  | .local _ .vmem, ⟨7, _⟩ => ⟨S1x32x512, .f32⟩
  | .local _ .vmem, ⟨8, _⟩ => ⟨S4x144x128, .i32⟩
  | .local _ .vmem, ⟨9, _⟩ => ⟨S576x128, .i32⟩
  | .local _ .vmem, ⟨10, _⟩ => ⟨S2048x128, .i32⟩
  | _, _ => ⟨S3x512x14336, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.muli arg0 c28_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3x512x14336 : Shape := ⟨3, ![3, 512, 14336]⟩
abbrev S3x32x14336 : Shape := ⟨3, ![3, 32, 14336]⟩
abbrev S3x512x1792x8 : Shape := ⟨4, ![3, 512, 1792, 8]⟩
abbrev S8 : Shape := ⟨1, ![8]⟩
abbrev S_ : Shape := ⟨0, ![]⟩
abbrev S3x512x1792x1 : Shape := ⟨4, ![3, 512, 1792, 1]⟩
abbrev S3x512x1792 : Shape := ⟨3, ![3, 512, 1792]⟩
abbrev S1x1x1x8 : Shape := ⟨4, ![1, 1, 1, 8]⟩
abbrev S3x1792x512x8 : Shape := ⟨4, ![3, 1792, 512, 8]⟩
abbrev S3x1792x4096 : Shape := ⟨3, ![3, 1792, 4096]⟩
abbrev S4 : Shape := ⟨1, ![4]⟩
abbrev S3x1792x4096x1 : Shape := ⟨4, ![3, 1792, 4096, 1]⟩
abbrev S1x1x1x4 : Shape := ⟨4, ![1, 1, 1, 4]⟩
abbrev S3x1792x4096x4 : Shape := ⟨4, ![3, 1792, 4096, 4]⟩
abbrev S3x14336x32 : Shape := ⟨3, ![3, 14336, 32]⟩

abbrev nBuf : Space → Nat
  | .hbm => 135
  | .vmem => 0
  | .smem => 0
  | _ => 0

abbrev hbmTy0_0 (i : Nat) : BufTy := match i % 128 with
  | 0 => ⟨S3x512x14336, .i32⟩
  | 1 => ⟨S3x32x14336, .f32⟩
  | 2 => ⟨S3x512x14336, .i32⟩
  | 3 => ⟨S3x512x1792x8, .i32⟩
  | 4 => ⟨S8, .i32⟩
  | 5 => ⟨S_, .i32⟩
  | 6 => ⟨S8, .i32⟩
  | 7 => ⟨S8, .i32⟩
  | 8 => ⟨S3x512x1792x1, .i32⟩
  | 9 => ⟨S3x512x1792, .i32⟩
  | 10 => ⟨S3x512x1792x1, .i32⟩
  | 11 => ⟨S1x1x1x8, .i32⟩
  | 12 => ⟨S3x512x1792x8, .i32⟩
  | 13 => ⟨S3x512x1792x8, .i32⟩
  | 14 => ⟨S3x512x1792x8, .i32⟩
  | 15 => ⟨S_, .i32⟩
  | 16 => ⟨S3x512x1792x8, .i32⟩
  | 17 => ⟨S3x512x1792x8, .i32⟩
  | 18 => ⟨S_, .i32⟩
  | 19 => ⟨S3x512x1792x8, .i32⟩
  | 20 => ⟨S3x512x1792x8, .i32⟩
  | 21 => ⟨S3x512x1792x1, .i32⟩
  | 22 => ⟨S3x512x1792, .i32⟩
  | 23 => ⟨S3x512x1792x1, .i32⟩
  | 24 => ⟨S1x1x1x8, .i32⟩
  | 25 => ⟨S3x512x1792x8, .i32⟩
  | 26 => ⟨S3x512x1792x8, .i32⟩
  | 27 => ⟨S3x512x1792x8, .i32⟩
  | 28 => ⟨S_, .i32⟩
  | 29 => ⟨S3x512x1792x8, .i32⟩
  | 30 => ⟨S3x512x1792x8, .i32⟩
  | 31 => ⟨S_, .i32⟩
  | 32 => ⟨S3x512x1792x8, .i32⟩
  | 33 => ⟨S3x512x1792x8, .i32⟩
  | 34 => ⟨S3x512x1792x8, .i32⟩
  | 35 => ⟨S3x512x1792x1, .i32⟩
  | 36 => ⟨S3x512x1792, .i32⟩
  | 37 => ⟨S3x512x1792x1, .i32⟩
  | 38 => ⟨S1x1x1x8, .i32⟩
  | 39 => ⟨S3x512x1792x8, .i32⟩
  | 40 => ⟨S3x512x1792x8, .i32⟩
  | 41 => ⟨S3x512x1792x8, .i32⟩
  | 42 => ⟨S_, .i32⟩
  | 43 => ⟨S3x512x1792x8, .i32⟩
  | 44 => ⟨S3x512x1792x8, .i32⟩
  | 45 => ⟨S_, .i32⟩
  | 46 => ⟨S3x512x1792x8, .i32⟩
  | 47 => ⟨S3x512x1792x8, .i32⟩
  | 48 => ⟨S3x512x1792x8, .i32⟩
  | 49 => ⟨S3x512x1792x1, .i32⟩
  | 50 => ⟨S3x512x1792, .i32⟩
  | 51 => ⟨S3x512x1792x1, .i32⟩
  | 52 => ⟨S1x1x1x8, .i32⟩
  | 53 => ⟨S3x512x1792x8, .i32⟩
  | 54 => ⟨S3x512x1792x8, .i32⟩
  | 55 => ⟨S3x512x1792x8, .i32⟩
  | 56 => ⟨S_, .i32⟩
  | 57 => ⟨S3x512x1792x8, .i32⟩
  | 58 => ⟨S3x512x1792x8, .i32⟩
  | 59 => ⟨S_, .i32⟩
  | 60 => ⟨S3x512x1792x8, .i32⟩
  | 61 => ⟨S3x512x1792x8, .i32⟩
  | 62 => ⟨S3x512x1792x8, .i32⟩
  | 63 => ⟨S3x512x1792x1, .i32⟩
  | 64 => ⟨S3x512x1792, .i32⟩
  | 65 => ⟨S3x512x1792x1, .i32⟩
  | 66 => ⟨S1x1x1x8, .i32⟩
  | 67 => ⟨S3x512x1792x8, .i32⟩
  | 68 => ⟨S3x512x1792x8, .i32⟩
  | 69 => ⟨S3x512x1792x8, .i32⟩
  | 70 => ⟨S_, .i32⟩
  | 71 => ⟨S3x512x1792x8, .i32⟩
  | 72 => ⟨S3x512x1792x8, .i32⟩
  | 73 => ⟨S_, .i32⟩
  | 74 => ⟨S3x512x1792x8, .i32⟩
  | 75 => ⟨S3x512x1792x8, .i32⟩
  | 76 => ⟨S3x512x1792x8, .i32⟩
  | 77 => ⟨S3x512x1792x1, .i32⟩
  | 78 => ⟨S3x512x1792, .i32⟩
  | 79 => ⟨S3x512x1792x1, .i32⟩
  | 80 => ⟨S1x1x1x8, .i32⟩
  | 81 => ⟨S3x512x1792x8, .i32⟩
  | 82 => ⟨S3x512x1792x8, .i32⟩
  | 83 => ⟨S3x512x1792x8, .i32⟩
  | 84 => ⟨S_, .i32⟩
  | 85 => ⟨S3x512x1792x8, .i32⟩
  | 86 => ⟨S3x512x1792x8, .i32⟩
  | 87 => ⟨S_, .i32⟩
  | 88 => ⟨S3x512x1792x8, .i32⟩
  | 89 => ⟨S3x512x1792x8, .i32⟩
  | 90 => ⟨S3x512x1792x8, .i32⟩
  | 91 => ⟨S3x512x1792x1, .i32⟩
  | 92 => ⟨S3x512x1792, .i32⟩
  | 93 => ⟨S3x512x1792x1, .i32⟩
  | 94 => ⟨S1x1x1x8, .i32⟩
  | 95 => ⟨S3x512x1792x8, .i32⟩
  | 96 => ⟨S3x512x1792x8, .i32⟩
  | 97 => ⟨S3x512x1792x8, .i32⟩
  | 98 => ⟨S_, .i32⟩
  | 99 => ⟨S3x512x1792x8, .i32⟩
  | 100 => ⟨S3x512x1792x8, .i32⟩
  | 101 => ⟨S_, .i32⟩
  | 102 => ⟨S3x512x1792x8, .i32⟩
  | 103 => ⟨S3x512x1792x8, .i32⟩
  | 104 => ⟨S3x512x1792x8, .i32⟩
  | 105 => ⟨S3x512x1792x1, .i32⟩
  | 106 => ⟨S3x512x1792, .i32⟩
  | 107 => ⟨S3x512x1792x1, .i32⟩
  | 108 => ⟨S1x1x1x8, .i32⟩
  | 109 => ⟨S3x512x1792x8, .i32⟩
  | 110 => ⟨S3x512x1792x8, .i32⟩
  | 111 => ⟨S3x512x1792x8, .i32⟩
  | 112 => ⟨S_, .i32⟩
  | 113 => ⟨S3x512x1792x8, .i32⟩
  | 114 => ⟨S3x512x1792x8, .i32⟩
  | 115 => ⟨S_, .i32⟩
  | 116 => ⟨S3x512x1792x8, .i32⟩
  | 117 => ⟨S3x512x1792x8, .i32⟩
  | 118 => ⟨S3x512x1792x8, .i32⟩
  | 119 => ⟨S3x1792x512x8, .i32⟩
  | 120 => ⟨S3x1792x4096, .i32⟩
  | 121 => ⟨S4, .i32⟩
  | 122 => ⟨S_, .i32⟩
  | 123 => ⟨S4, .i32⟩
  | 124 => ⟨S4, .i32⟩
  | 125 => ⟨S3x1792x4096x1, .i32⟩
  | 126 => ⟨S1x1x1x4, .i32⟩
  | 127 => ⟨S3x1792x4096x4, .i32⟩
  | _ => ⟨S3x512x14336, .i32⟩

abbrev hbmTy0_1 (i : Nat) : BufTy := match i % 128 with
  | 0 => ⟨S3x1792x4096x4, .i32⟩
  | 1 => ⟨S3x1792x4096x4, .i32⟩
  | 2 => ⟨S_, .i32⟩
  | 3 => ⟨S3x1792x4096x4, .i32⟩
  | 4 => ⟨S3x1792x4096x4, .i32⟩
  | 5 => ⟨S3x1792x4096x4, .i8⟩
  | 6 => ⟨S3x14336x32, .f32⟩
  | _ => ⟨S3x512x14336, .i32⟩

abbrev hbmTy (i : Nat) : BufTy := match i / 128 with
  | 0 => hbmTy0_0 i
  | 1 => hbmTy0_1 i
  | _ => ⟨S3x512x14336, .i32⟩

abbrev bufTy : (tb : Table) → Fin (tcTables nBuf tb) → BufTy
  | .hbm, ⟨i, _⟩ => hbmTy i
  | _, _ => ⟨S3x512x14336, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_4 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_6 : Ref sig .tc := ⟨.hbm, 56, rfl⟩
abbrev main_v47 : Ref sig .tc := ⟨.hbm, 57, rfl⟩
abbrev main_v48 : Ref sig .tc := ⟨.hbm, 58, rfl⟩
abbrev main_c_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c_8 : Ref sig .tc := ⟨.hbm, 70, rfl⟩
abbrev main_v59 : Ref sig .tc := ⟨.hbm, 71, rfl⟩
abbrev main_v60 : Ref sig .tc := ⟨.hbm, 72, rfl⟩
abbrev main_c_9 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_10 : Ref sig .tc := ⟨.hbm, 84, rfl⟩
abbrev main_v71 : Ref sig .tc := ⟨.hbm, 85, rfl⟩
abbrev main_v72 : Ref sig .tc := ⟨.hbm, 86, rfl⟩
abbrev main_c_11 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_12 : Ref sig .tc := ⟨.hbm, 98, rfl⟩
abbrev main_v83 : Ref sig .tc := ⟨.hbm, 99, rfl⟩
abbrev main_v84 : Ref sig .tc := ⟨.hbm, 100, rfl⟩
abbrev main_c_13 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_c_14 : Ref sig .tc := ⟨.hbm, 112, rfl⟩
abbrev main_v95 : Ref sig .tc := ⟨.hbm, 113, rfl⟩
abbrev main_v96 : Ref sig .tc := ⟨.hbm, 114, rfl⟩
abbrev main_c_15 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_16 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_c_17 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩

abbrev nD : Nat := 1
abbrev τ : Topo := Topo.v7x

variable {F : FTy → Type} [FloatOps F]
-- ==== Proof.Body.lean ====
/-
  The kernel's body, written as the loops it is: chunk by chunk, eight words of each row block are
  exchanged nibble by nibble into the first scratch buffer, each 128 x 128 tile of it is transposed
  into the second, and the transposed words are exchanged once more into the third, which is stored
  as bytes. The printed body is this program with every loop unrolled (`EqKernel`, `EqIdeal`).
-/
module

public import Idealize.ShloMosaic.Lib.Pipeline
public import Idealize.ShloMosaic.Lib.Sig
public import Idealize.ShloMosaic.PureOps

@[expose] public section

noncomputable section

namespace Repack

open Idealize.ShloMosaic Idealize.SL.Sem

abbrev S1x512x512 : Shape := ⟨3, ![1, 512, 512]⟩
abbrev S1x32x512 : Shape := ⟨3, ![1, 32, 512]⟩
abbrev S8192x128 : Shape := ⟨2, ![8192, 128]⟩
abbrev S4x144x128 : Shape := ⟨3, ![4, 144, 128]⟩
abbrev S576x128 : Shape := ⟨2, ![576, 128]⟩
abbrev S2048x128 : Shape := ⟨2, ![2048, 128]⟩
abbrev S1x8x128 : Shape := ⟨3, ![1, 8, 128]⟩
abbrev S8x128 : Shape := ⟨2, ![8, 128]⟩
abbrev S1x144x128 : Shape := ⟨3, ![1, 144, 128]⟩
abbrev S144x128 : Shape := ⟨2, ![144, 128]⟩
abbrev S128x128 : Shape := ⟨2, ![128, 128]⟩

/-! ## Side conditions of the accesses -/

theorem pos1x8 : 0 < S1x8x128.numel := by decide
theorem pos8 : 0 < S8x128.numel := by decide
theorem pos1x32 : 0 < S1x32x512.numel := by decide
theorem pos2048 : 0 < S2048x128.numel := by decide
theorem pos8192 : 0 < S8192x128.numel := by decide
theorem cast1x8 : S1x8x128.ShapeCasts S8x128 := by decide
theorem cast8 : S8x128.ShapeCasts S8x128 := by decide
theorem squeezes : S1x144x128.Squeezes S144x128 := by decide
theorem transposes : S128x128.Transposes [1, 0] S128x128 := by decide
theorem concatenates : Shape.Concatenates [S8x128, S8x128, S8x128, S8x128, S8x128, S8x128, S8x128, S8x128, S8x128, S8x128, S8x128, S8x128, S8x128, S8x128, S8x128, S8x128] S128x128 0 := by decide
theorem bitcasts : S2048x128.Bitcasts 32 S8192x128 8 := by decide

theorem inbW (c g h x : Nat) (hc : c < 4) (hg : g < 4) (hh : h < 2) (hx : x < 8) (a) :
    (![0, g * 128 + x * 16 + h * 8, c * 128] : Fin 3 → Nat) a + S1x8x128.size a ≤ S1x512x512.size a := by
  fin_cases a <;> simp <;> omega

theorem inbStrided (N o k : Nat) (h : o + k * 7 < N) (a) :
    S8x128.size a = 0 ∨ (![o, 0] : Fin 2 → Nat) a + (![k, 1] : Fin 2 → Nat) a * (S8x128.size a - 1) < (⟨2, ![N, 128]⟩ : Shape).size a := by
  right; fin_cases a <;> simp <;> omega

theorem stridePos (k : Nat) (h : 0 < k) (a) : 0 < (![k, 1] : Fin 2 → Nat) a := by
  fin_cases a <;> simp [h]

theorem inbRows (N o : Nat) (h : o + 8 ≤ N) (a) :
    (![o, 0] : Fin 2 → Nat) a + S8x128.size a ≤ (⟨2, ![N, 128]⟩ : Shape).size a := by
  fin_cases a <;> simp <;> omega

theorem inbGroup (g : Nat) (h : g < 4) (a) :
    (![g, 0, 0] : Fin 3 → Nat) a + S1x144x128.size a ≤ S4x144x128.size a := by
  fin_cases a <;> simp <;> omega

theorem slices (j : Nat) (h : j < 16) : S128x128.Slices ![j * 8, 0] S8x128 :=
  ⟨rfl, fun a => by fin_cases a <;> simp <;> omega⟩

theorem inbScales (a) : (![0, 0, 0] : Fin 3 → Nat) a + S1x32x512.size a ≤ S1x32x512.size a := by
  fin_cases a <;> simp
theorem inb2048 (a) : (![0, 0] : Fin 2 → Nat) a + S2048x128.size a ≤ S2048x128.size a := by
  fin_cases a <;> simp
theorem inb8192 (a) : (![0, 0] : Fin 2 → Nat) a + S8192x128.size a ≤ S8192x128.size a := by
  fin_cases a <;> simp
theorem packed8192 : (Rect.unit (s := S8192x128) ![0, 0] S8192x128.size inb8192).PackedRows (EltTy.packing .i8) := by decide

/-! ## The exchanges -/

section Exchange
variable {s : Shape}

/-- The low halves of the `bits`-wide pairs of `a`, with those of `b` above them; `m` masks them. -/
def lo (m bits : BitVec 32) (a b : IVec s 32) : IVec s 32 :=
  ori (andi a (broadcast s m)) (shli (andi b (broadcast s m)) (broadcast s bits))

/-- The high halves of the pairs of `a`, with those of `b` above them. -/
def hi (m bits : BitVec 32) (a b : IVec s 32) : IVec s 32 :=
  lo m bits (shrui a (broadcast s bits)) (shrui b (broadcast s bits))

/-- One exchange at nibbles, the low result or the high one. -/
def ex4 (p : Bool) (a b : IVec s 32) : IVec s 32 := bif p then hi 252645135#32 4#32 a b else lo 252645135#32 4#32 a b
/-- One exchange at bytes. -/
def ex8 (p : Bool) (a b : IVec s 32) : IVec s 32 := bif p then hi 16711935#32 8#32 a b else lo 16711935#32 8#32 a b
/-- One exchange at half words. -/
def ex16 (p : Bool) (a b : IVec s 32) : IVec s 32 :=
  bif p then packElementwiseI16 (shrui a (broadcast s 16#32)) (shrui b (broadcast s 16#32)) else packElementwiseI16 a b

/-- Word `f = p + 2 q + 4 r` of the eight words exchanged at nibbles, at bytes and at half words. -/
def nib (p q r : Bool) (w0 w1 w2 w3 w4 w5 w6 w7 : IVec s 32) : IVec s 32 :=
  ex16 r (ex8 q (ex4 p w0 w1) (ex4 p w2 w3)) (ex8 q (ex4 p w4 w5) (ex4 p w6 w7))

end Exchange

/-! ## The accesses -/

section Program
variable {F : FTy → Type} [FloatOps F] {nD : Nat} {τ : Topo} {sig : RefSig} {Λ : Labels}

/-- Eight rows of a buffer of `N` rows, `k` rows apart, from row `o` on. -/
@[reducible] def strided (N o k : Nat) (h : o + k * 7 < N) : LoadRect ⟨2, ![N, 128]⟩ :=
  ⟨![o, 0], S8x128.size, ![k, 1], inbStrided N o k h⟩

/-- The same to store through. -/
@[reducible] def stridedR (N o k : Nat) (h : o + k * 7 < N) (hk : 0 < k) : Rect ⟨2, ![N, 128]⟩ :=
  ⟨strided N o k h, stridePos k hk⟩

/-- Eight rows of a buffer of `N` rows from row `o` on. -/
@[reducible] def rows (N o : Nat) (h : o + 8 ≤ N) : Rect ⟨2, ![N, 128]⟩ :=
  Rect.unit (s := ⟨2, ![N, 128]⟩) ![o, 0] S8x128.size (inbRows N o h)

/-- Group `g` of the first scratch buffer. -/
@[reducible] def group (m : Memref sig .tc .vmem S4x144x128 .i32) (g : Nat) (h : g < 4) : Memref sig .tc .vmem S144x128 .i32 :=
  (m.slice (Rect.unit (s := S4x144x128) ![g, 0, 0] S1x144x128.size (inbGroup g h)) (fun _ => rfl)).squeeze S144x128 squeezes

/-- Eight rows of words of the packed block, as a vector of eight rows. -/
@[reducible] def blockRect (c g h x : Nat) (hc : c < 4) (hg : g < 4) (hh : h < 2) (hx : x < 8) : Rect S1x512x512 :=
  Rect.unit (s := S1x512x512) ![0, g * 128 + x * 16 + h * 8, c * 128] S1x8x128.size (inbW c g h x hc hg hh hx)

/-- Rows `o, o + k, …` of a buffer overwritten: the printed program loads them first and drops them. -/
def putStrided {N : Nat} (m : Memref sig .tc .vmem ⟨2, ![N, 128]⟩ .i32) (o k : Nat) (h : o + k * 7 < N) (hk : 0 < k)
    (w : IVec S8x128 32) : Prog (TpuEff nD τ sig (Elt F) Λ .tc) PUnit := do
  let _ : Vec F S8x128 .i32 ← Prog.lift (.load m (strided N o k h) (View.loadsAt_vmem pos8))
  Prog.lift (.store m (stridedR N o k h hk) (shapeCast S8x128 w cast8) Finset.univ (View.stores_vmem_bits_univ pos8 rfl) (.inl rfl))

/-- Rows `o, …, o + 7` of a buffer overwritten. -/
def putRows {N : Nat} (m : Memref sig .tc .vmem ⟨2, ![N, 128]⟩ .i32) (o : Nat) (h : o + 8 ≤ N)
    (w : IVec S8x128 32) : Prog (TpuEff nD τ sig (Elt F) Λ .tc) PUnit := do
  let _ : Vec F S8x128 .i32 ← Prog.lift (.load m (rows N o h).toLoadRect (View.loadsAt_vmem pos8))
  Prog.lift (.store m (rows N o h) (shapeCast S8x128 w cast8) Finset.univ (View.stores_vmem_bits_univ pos8 rfl) (.inl rfl))

def getStrided {N : Nat} (m : Memref sig .tc .vmem ⟨2, ![N, 128]⟩ .i32) (o k : Nat) (h : o + k * 7 < N) :
    Prog (TpuEff nD τ sig (Elt F) Λ .tc) (Vec F S8x128 .i32) :=
  Prog.lift (.load m (strided N o k h) (View.loadsAt_vmem pos8))

def getRows {N : Nat} (m : Memref sig .tc .vmem ⟨2, ![N, 128]⟩ .i32) (o : Nat) (h : o + 8 ≤ N) :
    Prog (TpuEff nD τ sig (Elt F) Λ .tc) (Vec F S8x128 .i32) :=
  Prog.lift (.load m (rows N o h).toLoadRect (View.loadsAt_vmem pos8))

def getWords (m : Memref sig .tc .vmem S1x512x512 .i32) (c g h x : Nat) (hc : c < 4) (hg : g < 4) (hh : h < 2) (hx : x < 8) :
    Prog (TpuEff nD τ sig (Elt F) Λ .tc) (Vec F S1x8x128 .i32) :=
  Prog.lift (.load m (blockRect c g h x hc hg hh hx).toLoadRect (View.loadsAt_vmem pos1x8))

/-- `f 0; …; f (n - 1)`. -/
def each : (n : Nat) → ((i : Nat) → i < n → Prog (TpuEff nD τ sig (Elt F) Λ .tc) PUnit) → Prog (TpuEff nD τ sig (Elt F) Λ .tc) PUnit
  | 0, _ => pure ⟨⟩
  | n + 1, f => f 0 (Nat.succ_pos n) >>= fun _ => each n fun i h => f (i + 1) (Nat.succ_lt_succ h)

/-! ## The body -/

/-- Bit `b` of a number, as the exchanges take it. -/
def bit (f b : Nat) : Bool := Nat.beq (f / b % 2) 1

/-- A row block of a group: eight words per position, exchanged, to the group's rows. -/
def rowBlock (w : Memref sig .tc .vmem S1x512x512 .i32) (m6 : Memref sig .tc .vmem S4x144x128 .i32)
    (c g h : Nat) (hc : c < 4) (hg : g < 4) (hh : h < 2) : Prog (TpuEff nD τ sig (Elt F) Λ .tc) PUnit := do
  let w0 ← getWords w c g h 0 hc hg hh (by decide)
  let w1 ← getWords w c g h 1 hc hg hh (by decide)
  let w2 ← getWords w c g h 2 hc hg hh (by decide)
  let w3 ← getWords w c g h 3 hc hg hh (by decide)
  let w4 ← getWords w c g h 4 hc hg hh (by decide)
  let w5 ← getWords w c g h 5 hc hg hh (by decide)
  let w6 ← getWords w c g h 6 hc hg hh (by decide)
  let w7 ← getWords w c g h 7 hc hg hh (by decide)
  each 8 fun f hf => putStrided (group m6 g hg) (h * 72 + f) 9 (by omega) (by decide)
    (nib (bit f 1) (bit f 2) (bit f 4)
      (shapeCast S8x128 w0 cast1x8) (shapeCast S8x128 w1 cast1x8) (shapeCast S8x128 w2 cast1x8) (shapeCast S8x128 w3 cast1x8)
      (shapeCast S8x128 w4 cast1x8) (shapeCast S8x128 w5 cast1x8) (shapeCast S8x128 w6 cast1x8) (shapeCast S8x128 w7 cast1x8))

/-- Sixteen blocks of eight rows, one after another. -/
def tile (v0 v1 v2 v3 v4 v5 v6 v7 v8 v9 v10 v11 v12 v13 v14 v15 : IVec S8x128 32) : IVec S128x128 32 :=
  concatenate S128x128 0 [⟨S8x128, v0⟩, ⟨S8x128, v1⟩, ⟨S8x128, v2⟩, ⟨S8x128, v3⟩, ⟨S8x128, v4⟩, ⟨S8x128, v5⟩, ⟨S8x128, v6⟩, ⟨S8x128, v7⟩,
    ⟨S8x128, v8⟩, ⟨S8x128, v9⟩, ⟨S8x128, v10⟩, ⟨S8x128, v11⟩, ⟨S8x128, v12⟩, ⟨S8x128, v13⟩, ⟨S8x128, v14⟩, ⟨S8x128, v15⟩] concatenates

/-- A group's tile, transposed, to its rows of the second scratch buffer. -/
def turn (m6 : Memref sig .tc .vmem S4x144x128 .i32) (m7 : Memref sig .tc .vmem S576x128 .i32) (g : Nat) (hg : g < 4) :
    Prog (TpuEff nD τ sig (Elt F) Λ .tc) PUnit := do
  let v0 ← getRows (group m6 g hg) 0 (by decide)
  let v1 ← getRows (group m6 g hg) 9 (by decide)
  let v2 ← getRows (group m6 g hg) 18 (by decide)
  let v3 ← getRows (group m6 g hg) 27 (by decide)
  let v4 ← getRows (group m6 g hg) 36 (by decide)
  let v5 ← getRows (group m6 g hg) 45 (by decide)
  let v6 ← getRows (group m6 g hg) 54 (by decide)
  let v7 ← getRows (group m6 g hg) 63 (by decide)
  let v8 ← getRows (group m6 g hg) 72 (by decide)
  let v9 ← getRows (group m6 g hg) 81 (by decide)
  let v10 ← getRows (group m6 g hg) 90 (by decide)
  let v11 ← getRows (group m6 g hg) 99 (by decide)
  let v12 ← getRows (group m6 g hg) 108 (by decide)
  let v13 ← getRows (group m6 g hg) 117 (by decide)
  let v14 ← getRows (group m6 g hg) 126 (by decide)
  let v15 ← getRows (group m6 g hg) 135 (by decide)
  each 16 fun j hj => putRows m7 ((j * 4 + g) * 9) (by omega)
    (extractStridedSlice S8x128 ![j * 8, 0]
      (transpose S128x128 [1, 0] (tile v0 v1 v2 v3 v4 v5 v6 v7 v8 v9 v10 v11 v12 v13 v14 v15) transposes) (slices j hj))

/-- Eight transposed rows per position, exchanged, to the third scratch buffer. -/
def outBlock (m7 : Memref sig .tc .vmem S576x128 .i32) (m8 : Memref sig .tc .vmem S2048x128 .i32)
    (c p : Nat) (hc : c < 4) (hp : p < 8) : Prog (TpuEff nD τ sig (Elt F) Λ .tc) PUnit := do
  let w0 ← getStrided m7 (p * 72 + 0) 9 (by omega)
  let w1 ← getStrided m7 (p * 72 + 1) 9 (by omega)
  let w2 ← getStrided m7 (p * 72 + 2) 9 (by omega)
  let w3 ← getStrided m7 (p * 72 + 3) 9 (by omega)
  let w4 ← getStrided m7 (p * 72 + 4) 9 (by omega)
  let w5 ← getStrided m7 (p * 72 + 5) 9 (by omega)
  let w6 ← getStrided m7 (p * 72 + 6) 9 (by omega)
  let w7 ← getStrided m7 (p * 72 + 7) 9 (by omega)
  each 8 fun x hx => putStrided m8 (c * 512 + p * 64 + x) 8 (by omega) (by decide)
    (nib (bit x 1) (bit x 2) (bit x 4)
      w0 w1 w2 w3 w4 w5 w6 w7)

/-- The words of one block: chunk by chunk, through the three scratch buffers. -/
def chunks (w : Memref sig .tc .vmem S1x512x512 .i32) (m6 : Memref sig .tc .vmem S4x144x128 .i32)
    (m7 : Memref sig .tc .vmem S576x128 .i32) (m8 : Memref sig .tc .vmem S2048x128 .i32) :
    Prog (TpuEff nD τ sig (Elt F) Λ .tc) PUnit :=
  each 4 fun c hc => do
    each 4 fun g hg => do
      each 2 fun h hh => rowBlock w m6 c g h hc hg hh
      turn m6 m7 g hg
    each 8 fun p hp => outBlock m7 m8 c p hc hp

/-- The body: the scales copied, the words repacked, and the repacked words stored as bytes. -/
def body (w : Memref sig .tc .vmem S1x512x512 .i32) (sc : Memref sig .tc .vmem S1x32x512 .f32)
    (t : Memref sig .tc .vmem S8192x128 .i8) (ht : t.IsWhole) (ts : Memref sig .tc .vmem S1x32x512 .f32)
    (m6 : Memref sig .tc .vmem S4x144x128 .i32) (m7 : Memref sig .tc .vmem S576x128 .i32)
    (m8 : Memref sig .tc .vmem S2048x128 .i32) : Prog (TpuEff nD τ sig (Elt F) Λ .tc) PUnit := do
  let s : Vec F S1x32x512 .f32 ← Prog.lift (.load sc (Rect.unit (s := S1x32x512) ![0, 0, 0] S1x32x512.size inbScales).toLoadRect (View.loadsAt_vmem pos1x32))
  let _ : Vec F S1x32x512 .f32 ← Prog.lift (.load ts (Rect.unit (s := S1x32x512) ![0, 0, 0] S1x32x512.size inbScales).toLoadRect (View.loadsAt_vmem pos1x32))
  Prog.lift (.store ts (Rect.unit (s := S1x32x512) ![0, 0, 0] S1x32x512.size inbScales) s Finset.univ (View.stores_vmem_bits_univ pos1x32 rfl) (.inl rfl))
  chunks w m6 m7 m8
  let v : Vec F S2048x128 .i32 ← Prog.lift (.load m8 (Rect.unit (s := S2048x128) ![0, 0] S2048x128.size inb2048).toLoadRect (View.loadsAt_vmem pos2048))
  let _ : Vec F S8192x128 .i8 ← Prog.lift (.load t (Rect.unit (s := S8192x128) ![0, 0] S8192x128.size inb8192).toLoadRect (View.loadsAt_vmem pos8192))
  Prog.lift (.store t (Rect.unit (s := S8192x128) ![0, 0] S8192x128.size inb8192) (bitcast S8192x128 8 v bitcasts) Finset.univ
    (View.stores_vmem pos8192 (ht.storeExact_slice rfl _ packed8192) (fun _ => rfl)) (.inl rfl))

end Program

end Repack

end
-- ==== Proof.EqIdeal.lean ====
/-
  The printed body of the kernel is `Repack.body`.
-/
module

public import proofs.«01_k».proof.KernelIdeal
public import proofs.«01_k».proof.Proof.Body
public import Idealize.ShloMosaic.Lib.Tactic

@[expose] public section

noncomputable section

namespace Cert.KernelIdeal

open Idealize.ShloMosaic Idealize.SL.Sem Idealize.ShloMosaic.Tactic

variable {F : FTy → Type} [FloatOps F] [Facts]

/-- The printed body is the loops unrolled. -/
theorem cc0_eq (i : grid0.Coords) (arg2 : Memref sig .tc .vmem S1x512x512 .i32) (harg2 : arg2.IsWhole) (arg3 : Memref sig .tc .vmem S1x32x512 .f32) (harg3 : arg3.IsWhole) (arg4 : Memref sig .tc .vmem S8192x128 .i8) (harg4 : arg4.IsWhole) (arg5 : Memref sig .tc .vmem S1x32x512 .f32) (harg5 : arg5.IsWhole) (arg6 : Memref sig .tc .vmem S4x144x128 .i32) (harg6 : arg6.IsWhole) (arg7 : Memref sig .tc .vmem S576x128 .i32) (harg7 : arg7.IsWhole) (arg8 : Memref sig .tc .vmem S2048x128 .i32) (harg8 : arg8.IsWhole) :
    (cc0_int4_repack i arg2 harg2 arg3 harg3 arg4 harg4 arg5 harg5 arg6 harg6 arg7 harg7 arg8 harg8 : Prog (TpuEff nD τ sig (Elt F) Λ₀ .tc) PUnit)
      = Repack.body arg2 arg3 arg4 harg4 arg5 arg6 arg7 arg8 := by
  sl_kernel_rfl

end Cert.KernelIdeal

end
-- ==== Proof.Bits.lean ====
/-
  What the exchanges compute, bit by bit: word `f` of eight words exchanged at nibbles, bytes and half
  words is nibble `f` of each of them, side by side.
-/
module

public import proofs.«01_k».proof.Proof.Body
public import Idealize.ShloMosaic.Lib.Pointwise

@[expose] public section

noncomputable section

namespace Repack

open Idealize.ShloMosaic Idealize.SL.Sem

variable {s : Shape}

theorem lo4_bit (a b : IVec s 32) (j : s.Idx) (i : Nat) (hi : i < 32) :
    (lo 252645135#32 4#32 a b j).getLsbD i = if i / 4 % 2 = 0 then (a j).getLsbD i else (b j).getLsbD (i - 4) := by
  simp only [lo, ori, andi, shli, broadcast, IntOp.ori, IntOp.andi, IntOp.shli]
  interval_cases i <;> simp

theorem hi4_bit (a b : IVec s 32) (j : s.Idx) (i : Nat) (h : i < 32) :
    (hi 252645135#32 4#32 a b j).getLsbD i = if i / 4 % 2 = 0 then (a j).getLsbD (i + 4) else (b j).getLsbD i := by
  rw [hi, lo4_bit _ _ _ _ h]
  simp only [shrui, broadcast, IntOp.shrui]
  interval_cases i <;> simp

theorem lo8_bit (a b : IVec s 32) (j : s.Idx) (i : Nat) (hi : i < 32) :
    (lo 16711935#32 8#32 a b j).getLsbD i = if i / 8 % 2 = 0 then (a j).getLsbD i else (b j).getLsbD (i - 8) := by
  simp only [lo, ori, andi, shli, broadcast, IntOp.ori, IntOp.andi, IntOp.shli]
  interval_cases i <;> simp

theorem hi8_bit (a b : IVec s 32) (j : s.Idx) (i : Nat) (h : i < 32) :
    (hi 16711935#32 8#32 a b j).getLsbD i = if i / 8 % 2 = 0 then (a j).getLsbD (i + 8) else (b j).getLsbD i := by
  rw [hi, lo8_bit _ _ _ _ h]
  simp only [shrui, broadcast, IntOp.shrui]
  interval_cases i <;> simp

theorem lo16_bit (a b : IVec s 32) (j : s.Idx) (i : Nat) (h : i < 32) :
    (packElementwiseI16 a b j).getLsbD i = if i / 16 % 2 = 0 then (a j).getLsbD i else (b j).getLsbD (i - 16) := by
  have e (x y : BitVec 16) : (x ++ y : BitVec 32).getLsbD i = if i < 16 then y.getLsbD i else x.getLsbD (i - 16) :=
    BitVec.getLsbD_append
  rw [packElementwiseI16_apply, e]
  interval_cases i <;> simp

theorem ex4_bit (p : Bool) (a b : IVec s 32) (j : s.Idx) (i : Nat) (h : i < 32) :
    (ex4 p a b j).getLsbD i = if i / 4 % 2 = 0 then (a j).getLsbD (i + 4 * p.toNat) else (b j).getLsbD (i - 4 + 4 * p.toNat) := by
  cases p
  · simp [ex4, lo4_bit _ _ _ _ h]
  · simp only [ex4, cond_true, hi4_bit _ _ _ _ h, Bool.toNat_true]
    split
    · rfl
    · congr 1; omega

theorem ex8_bit (p : Bool) (a b : IVec s 32) (j : s.Idx) (i : Nat) (h : i < 32) :
    (ex8 p a b j).getLsbD i = if i / 8 % 2 = 0 then (a j).getLsbD (i + 8 * p.toNat) else (b j).getLsbD (i - 8 + 8 * p.toNat) := by
  cases p
  · simp [ex8, lo8_bit _ _ _ _ h]
  · simp only [ex8, cond_true, hi8_bit _ _ _ _ h, Bool.toNat_true]
    split
    · rfl
    · congr 1; omega

theorem ex16_bit (p : Bool) (a b : IVec s 32) (j : s.Idx) (i : Nat) (h : i < 32) :
    (ex16 p a b j).getLsbD i = if i / 16 % 2 = 0 then (a j).getLsbD (i + 16 * p.toNat) else (b j).getLsbD (i - 16 + 16 * p.toNat) := by
  cases p
  · simp [ex16, lo16_bit _ _ _ _ h]
  · simp only [ex16, cond_true, lo16_bit _ _ _ _ h, Bool.toNat_true]
    simp only [shrui, broadcast, IntOp.shrui]
    interval_cases i <;> simp

/-- Nibble `f` of a word, moved to nibble `e`. -/
def field (f e : Nat) (x : BitVec 32) : BitVec 32 := ((x >>> (4 * f)) &&& 15#32) <<< (4 * e)

/-- Nibble `f` of eight words, that of word `e` at nibble `e`. -/
def gather (f : Nat) (w : Fin 8 → BitVec 32) : BitVec 32 :=
  field f 0 (w 0) ||| field f 1 (w 1) ||| field f 2 (w 2) ||| field f 3 (w 3)
    ||| field f 4 (w 4) ||| field f 5 (w 5) ||| field f 6 (w 6) ||| field f 7 (w 7)

theorem field_bit (f e : Nat) (x : BitVec 32) (i : Nat) (h : i < 32) :
    (field f e x).getLsbD i = (decide (i / 4 = e) && x.getLsbD (4 * f + i % 4)) := by
  have h15 (k : Nat) : (15#32).getLsbD k = decide (k < 4) := by
    by_cases hk : k < 32
    · interval_cases k <;> rfl
    · rw [BitVec.getLsbD_of_ge _ _ (by omega)]; simp; omega
  rw [field, BitVec.getLsbD_shiftLeft, BitVec.getLsbD_and, BitVec.getLsbD_ushiftRight, h15]
  by_cases he : i / 4 = e
  · have h4 : i - 4 * e = i % 4 := by omega
    have h1 : decide (i < 32) = true := decide_eq_true h
    have h2 : decide (i < 4 * e) = false := decide_eq_false (by omega)
    have h3 : decide (i % 4 < 4) = true := decide_eq_true (by omega)
    rw [h4, h1, h2, h3, decide_eq_true he]
    simp
  · have : ¬ (4 * e ≤ i ∧ i - 4 * e < 4) := by omega
    simp only [he, decide_false, Bool.false_and]
    simp
    omega

theorem gather_bit (f : Nat) (w : Fin 8 → BitVec 32) (i : Nat) (h : i < 32) :
    (gather f w).getLsbD i = (w ⟨i / 4, by omega⟩).getLsbD (4 * f + i % 4) := by
  simp only [gather, BitVec.getLsbD_or, field_bit _ _ _ _ h]
  interval_cases i <;> simp <;> rfl

theorem nib_bits (p q r : Bool) (w0 w1 w2 w3 w4 w5 w6 w7 : IVec s 32) (j : s.Idx) :
    nib p q r w0 w1 w2 w3 w4 w5 w6 w7 j
      = gather (p.toNat + 2 * q.toNat + 4 * r.toNat) ![w0 j, w1 j, w2 j, w3 j, w4 j, w5 j, w6 j, w7 j] := by
  apply BitVec.eq_of_getLsbD_eq
  intro i hi
  rw [gather_bit _ _ _ hi, nib, ex16_bit _ _ _ _ _ hi]
  cases p <;> cases q <;> cases r <;> interval_cases i <;>
    simp [ex8_bit, ex4_bit, -BitVec.getLsbD_eq_getElem]

/-- Word `f` of the eight exchanged words gathers nibble `f` of each. -/
theorem nib_eq (f : Nat) (hf : f < 8) (w0 w1 w2 w3 w4 w5 w6 w7 : IVec s 32) (j : s.Idx) :
    nib (bit f 1) (bit f 2) (bit f 4) w0 w1 w2 w3 w4 w5 w6 w7 j
      = gather f ![w0 j, w1 j, w2 j, w3 j, w4 j, w5 j, w6 j, w7 j] := by
  have h : (bit f 1).toNat + 2 * (bit f 2).toNat + 4 * (bit f 4).toNat = f := by
    interval_cases f <;> rfl
  rw [nib_bits, h]

end Repack

end
-- ==== Proof.Access.lean ====
/-
  The accesses of the body as rules: what is read off, and what is left in, a buffer owned at given
  contents. The contents of the buffers are functions of natural-number coordinates (`State`), `Owned`
  is what a core owns at a state, and `At σ p Q` says that the program `p`, run from the state `σ`, ends
  at a result and a state related by `Q`.
-/
module

public import proofs.«01_k».proof.Proof.Body
public import Idealize.ShloMosaic.Lib.Memref
public import Idealize.ShloMosaic.Lib.ValueIdxCore
public import Idealize.ShloMosaic.Lib.ValueLayout
public import Idealize.ShloMosaic.Rules.Step

@[expose] public section

noncomputable section

namespace Repack

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

section Owned

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {𝒱 : Variants} {c : Thread nD τ} {bd : Option 𝒱.V} {E : Set Name}
variable {cs : CoreSpace} {s s' : Shape} {e : EltTy}

/-- A load from an owned buffer reads its contents at the coordinates loaded. -/
theorem load_owns (m : Memref sig c.2.kind cs s e) (r : LoadRect s) (hl : m.view.LoadsAt r) (X : s.Idx → Elt F e) :
    (owns c m fullShare X : sProp 𝕄) ⊢ wp frame (wpE defs 𝒱 c bd) E (Prog.lift (.load m r hl))
      (fun v => iprop(⌜v = fun j => X (r.idx j)⌝ ∗ owns c m fullShare X)) := by
  unfold owns
  iintro ⟨%f, %hf, H⟩
  iapply (wp_load (defs := defs) 𝒱 c bd E (m := m) (r := r) (hl := hl) (S := m.view.set) (f := f) (View.setOn_subset_set _ _)) $$ [H]
  · iexact H
  iintro H
  iapply (le_wp_ret _ _ _ _ _)
  isplitr
  · ipureintro; subst hf; rfl
  iexists f; isplitr
  · ipureintro; exact hf
  iexact H

/-- A store into an owned buffer leaves the stored vector at the rectangle's elements and the old contents elsewhere. -/
theorem store_owns (m : Memref sig c.2.kind cs s e) (r : Rect s) (w : r.shape.Idx → Elt F e)
    (hx : (m.access r).Stores Finset.univ) (hm : Finset.univ = Finset.univ ∨ ∀ a, r.stride a = 1) (X : s.Idx → Elt F e) :
    (owns c m fullShare X : sProp 𝕄) ⊢ wp frame (wpE defs 𝒱 c bd) E (Prog.lift (.store m r w Finset.univ hx hm))
      (fun _ => iprop(∃ X', ⌜(∀ j, X' (r.idx j) = w j) ∧ ∀ y, (∀ j, r.idx j ≠ y) → X' y = X y⌝ ∗ owns c m fullShare X')) := by
  unfold owns
  iintro ⟨%f, %hf, H⟩
  iapply (wp_store (defs := defs) 𝒱 c bd E (m := m) (r := r) (w := w) (Mk := Finset.univ) (hx := hx) (hm := hm) (S := m.view.set) (f := f) (View.set_slice_subset _ _)) $$ [H]
  · iexact H
  iintro H
  iapply (le_wp_ret _ _ _ _ _)
  iexists m.view.read (Elt F) ((m.access r).write (Elt F) f w Finset.univ)
  isplitr
  · ipureintro
    subst hf
    refine ⟨fun j => View.read_slice_write_emb r f w (Finset.mem_univ j), fun y hy => View.read_slice_write_of_not_mem r f w _ ?_⟩
    rw [Finset.mem_map]
    rintro ⟨j, -, hj⟩
    exact hy j hj
  iexists _; isplitr
  swap; · iexact H
  ipureintro; rfl

/-- Where an index of a squeezed rectangle lies in the buffer the rectangle was taken of. -/
@[reducible] def place (r₀ : Rect s) (h : r₀.shape.Squeezes s') (j : s'.Idx) : s.Idx := r₀.idx (Shape.reshapeEquiv h.numel_eq j)

theorem squeeze_set_subset (m : Memref sig c.2.kind cs s e) (r₀ : Rect s) (h₁ : ∀ a, r₀.stride a = 1) (h : r₀.shape.Squeezes s') :
    ((m.slice r₀ h₁).squeeze s' h).view.set ⊆ m.view.set :=
  (View.set_reshape (v := m.view.slice r₀) h.numel_eq).subset.trans (View.set_slice_subset (v := m.view) r₀)

/-- A load through a squeezed rectangle of an owned buffer. -/
theorem load_owns_squeeze (m : Memref sig c.2.kind cs s e) (r₀ : Rect s) (h₁ : ∀ a, r₀.stride a = 1) (h : r₀.shape.Squeezes s')
    (r : LoadRect s') (hl : ((m.slice r₀ h₁).squeeze s' h).view.LoadsAt r) (X : s.Idx → Elt F e) :
    (owns c m fullShare X : sProp 𝕄) ⊢ wp frame (wpE defs 𝒱 c bd) E (Prog.lift (.load ((m.slice r₀ h₁).squeeze s' h) r hl))
      (fun v => iprop(⌜v = fun j => X (place r₀ h (r.idx j))⌝ ∗ owns c m fullShare X)) := by
  unfold owns
  iintro ⟨%f, %hf, H⟩
  have hs : ((m.slice r₀ h₁).squeeze s' h).view.set ⊆ m.view.set := squeeze_set_subset m r₀ h₁ h
  iapply (wp_load (defs := defs) 𝒱 c bd E (m := (m.slice r₀ h₁).squeeze s' h) (r := r) (hl := hl) (S := m.view.set) (f := f)
    ((View.setOn_subset_set _ _).trans hs)) $$ [H]
  · iexact H
  iintro H
  iapply (le_wp_ret _ _ _ _ _)
  isplitr
  · ipureintro; subst hf; rfl
  iexists f; isplitr
  · ipureintro; exact hf
  iexact H

/-- A store through a squeezed rectangle of an owned buffer. -/
theorem store_owns_squeeze (m : Memref sig c.2.kind cs s e) (r₀ : Rect s) (h₁ : ∀ a, r₀.stride a = 1) (h : r₀.shape.Squeezes s')
    (r : Rect s') (w : r.shape.Idx → Elt F e)
    (hx : (((m.slice r₀ h₁).squeeze s' h).access r).Stores Finset.univ) (hm : Finset.univ = Finset.univ ∨ ∀ a, r.stride a = 1)
    (X : s.Idx → Elt F e) :
    (owns c m fullShare X : sProp 𝕄) ⊢ wp frame (wpE defs 𝒱 c bd) E (Prog.lift (.store ((m.slice r₀ h₁).squeeze s' h) r w Finset.univ hx hm))
      (fun _ => iprop(∃ X', ⌜(∀ j, X' (place r₀ h (r.idx j)) = w j) ∧ ∀ y, (∀ j, place r₀ h (r.idx j) ≠ y) → X' y = X y⌝
        ∗ owns c m fullShare X')) := by
  unfold owns
  iintro ⟨%f, %hf, H⟩
  have hs : ((m.slice r₀ h₁).squeeze s' h).view.set ⊆ m.view.set := squeeze_set_subset m r₀ h₁ h
  iapply (wp_store (defs := defs) 𝒱 c bd E (m := (m.slice r₀ h₁).squeeze s' h) (r := r) (w := w) (Mk := Finset.univ) (hx := hx) (hm := hm)
    (S := m.view.set) (f := f) ((View.set_slice_subset _ _).trans hs)) $$ [H]
  · iexact H
  iintro H
  iapply (le_wp_ret _ _ _ _ _)
  iexists m.view.read (Elt F) ((((m.slice r₀ h₁).squeeze s' h).access r).write (Elt F) f w Finset.univ)
  isplitr
  · ipureintro
    subst hf
    refine ⟨fun j => ?_, fun y hy => ?_⟩
    · rw [View.read_apply,
        show m.view.emb (place r₀ h (r.idx j)) = (((m.slice r₀ h₁).squeeze s' h).access r).emb j from rfl]
      refine (congrArg _ (View.write_emb_of_mem (v := ((m.slice r₀ h₁).squeeze s' h).access r) f w (Finset.mem_univ j))).trans ?_
      rw [cast_cast, cast_eq]
    · rw [View.read_apply, View.read_apply]
      refine congrArg _ (View.write_of_not_mem (v := ((m.slice r₀ h₁).squeeze s' h).access r) f w _ ?_)
      intro hc
      obtain ⟨j, -, hj⟩ := Finset.mem_map.mp hc
      exact hy j (m.view.emb.injective hj)
  iexists _; isplitr
  swap; · iexact H
  ipureintro; rfl

end Owned

end Repack

end
-- ==== Proof.State.lean ====
/-
  What the body's accesses do to the contents of its buffers. The words and the three scratch buffers
  are functions of natural-number coordinates; `At σ p Q` says that the program `p`, run from the state
  `σ`, ends at a result and a state that `Q` relates.
-/
module

public import proofs.«01_k».proof.Proof.Access

@[expose] public section

noncomputable section

namespace Repack

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

/-- The contents of the three scratch buffers, by coordinates. -/
structure State where
  a : Nat → Nat → Nat → BitVec 32
  b : Nat → Nat → BitVec 32
  d : Nat → Nat → BitVec 32

/-- A vector of rank two read off a function of coordinates. -/
@[reducible] def vec2 (m n : Nat) (f : Nat → Nat → BitVec 32) : IVec ⟨2, ![m, n]⟩ 32 := fun j => f (j 0).val (j 1).val
/-- A vector of rank three read off a function of coordinates. -/
@[reducible] def vec3 (k m n : Nat) (f : Nat → Nat → Nat → BitVec 32) : IVec ⟨3, ![k, m, n]⟩ 32 :=
  fun j => f (j 0).val (j 1).val (j 2).val

/-- A vector of rank two as a function of coordinates, `f` out of range. -/
def fun2 {m n : Nat} (v : IVec ⟨2, ![m, n]⟩ 32) (f : Nat → Nat → BitVec 32) (i j : Nat) : BitVec 32 :=
  if h : i < m ∧ j < n then v (ix2 ⟨i, h.1⟩ ⟨j, h.2⟩) else f i j
def fun3 {k m n : Nat} (v : IVec ⟨3, ![k, m, n]⟩ 32) (f : Nat → Nat → Nat → BitVec 32) (g i j : Nat) : BitVec 32 :=
  if h : g < k ∧ i < m ∧ j < n then v (ix3 ⟨g, h.1⟩ ⟨i, h.2.1⟩ ⟨j, h.2.2⟩) else f g i j

theorem vec2_fun2 {m n : Nat} (v : IVec ⟨2, ![m, n]⟩ 32) (f : Nat → Nat → BitVec 32) : vec2 m n (fun2 v f) = v := by
  funext j
  rw [vec2, fun2, dif_pos ⟨(j 0).isLt, (j 1).isLt⟩]
  exact congrArg v (eq_ix2 j).symm
theorem vec3_fun3 {k m n : Nat} (v : IVec ⟨3, ![k, m, n]⟩ 32) (f : Nat → Nat → Nat → BitVec 32) : vec3 k m n (fun3 v f) = v := by
  funext j
  rw [vec3, fun3, dif_pos ⟨(j 0).isLt, (j 1).isLt, (j 2).isLt⟩]
  exact congrArg v (eq_ix3 j).symm

section Rules

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (𝒱 : Variants) (c : Dev nD) (bd : Option 𝒱.V) (E : Set Name)
variable (w : Memref sig .tc .vmem S1x512x512 .i32) (m6 : Memref sig .tc .vmem S4x144x128 .i32)
variable (m7 : Memref sig .tc .vmem S576x128 .i32) (m8 : Memref sig .tc .vmem S2048x128 .i32)
variable (X : Nat → Nat → BitVec 32)

/-- The block of words owned at `X`, the scratch buffers at the state. -/
def Owned (σ : State) : sProp 𝕄 :=
  iprop(owns (c.tc : Thread nD τ) w fullShare (vec3 1 512 512 fun _ => X) ∗ owns (c.tc : Thread nD τ) m6 fullShare (vec3 4 144 128 σ.a)
    ∗ owns (c.tc : Thread nD τ) m7 fullShare (vec2 576 128 σ.b) ∗ owns (c.tc : Thread nD τ) m8 fullShare (vec2 2048 128 σ.d))

/-- Run from `σ`, the program ends at a result and a state related by `Q`. -/
def At {α : Type} (σ : State) (p : Prog (TpuEff nD τ sig (Elt F) Λ .tc) α) (Q : α → State → Prop) : Prop :=
  (Owned c w m6 m7 m8 X σ : sProp 𝕄) ⊢ wp frame (wpE defs 𝒱 (c.tc : Thread nD τ) bd) E p
    (fun v => iprop(∃ σ', ⌜Q v σ'⌝ ∗ Owned c w m6 m7 m8 X σ'))

variable {defs 𝒱 c bd E w m6 m7 m8 X}

theorem At.bind {α β : Type} {σ : State} {p : Prog (TpuEff nD τ sig (Elt F) Λ .tc) α} {k : α → Prog (TpuEff nD τ sig (Elt F) Λ .tc) β}
    {Q : α → State → Prop} {T : β → State → Prop}
    (hp : At (F := F) (Ix := Ix) (U := U) (Lvl := Lvl) defs 𝒱 c bd E w m6 m7 m8 X σ p Q)
    (hk : ∀ v σ', Q v σ' → At (F := F) (Ix := Ix) (U := U) (Lvl := Lvl) defs 𝒱 c bd E w m6 m7 m8 X σ' (k v) T) :
    At (F := F) (Ix := Ix) (U := U) (Lvl := Lvl) defs 𝒱 c bd E w m6 m7 m8 X σ (p >>= k) T := by
  unfold At at *
  rw [wp_bind]
  refine hp.trans (wp_mono _ _ _ fun v => ?_)
  iintro ⟨%σ', %h, H⟩
  iapply (hk v σ' h)
  iexact H

theorem At.mono {α : Type} {σ : State} {p : Prog (TpuEff nD τ sig (Elt F) Λ .tc) α} {Q T : α → State → Prop}
    (hp : At (F := F) (Ix := Ix) (U := U) (Lvl := Lvl) defs 𝒱 c bd E w m6 m7 m8 X σ p Q) (h : ∀ v σ', Q v σ' → T v σ') :
    At (F := F) (Ix := Ix) (U := U) (Lvl := Lvl) defs 𝒱 c bd E w m6 m7 m8 X σ p T := by
  unfold At at *
  refine hp.trans (wp_mono _ _ _ fun v => ?_)
  iintro ⟨%σ', %h', H⟩
  iexists σ'; isplitr
  · ipureintro; exact h v σ' h'
  iexact H

theorem At.pure {α : Type} {σ : State} {v : α} {Q : α → State → Prop} (h : Q v σ) :
    At (F := F) (Ix := Ix) (U := U) (Lvl := Lvl) defs 𝒱 c bd E w m6 m7 m8 X σ (Pure.pure v) Q := by
  unfold At
  refine BIBase.Entails.trans ?_ (le_wp_ret _ _ _ v _)
  iintro H
  iexists σ; isplitr
  · ipureintro; exact h
  iexact H

/-- A loop carries an invariant from its first pass to its last. -/
theorem At.each (n : Nat) : ∀ {σ : State} {f : (i : Nat) → i < n → Prog (TpuEff nD τ sig (Elt F) Λ .tc) PUnit} (I : Nat → State → Prop), I 0 σ →
    (∀ i h σ, I i σ → At (F := F) (Ix := Ix) (U := U) (Lvl := Lvl) defs 𝒱 c bd E w m6 m7 m8 X σ (f i h) (fun _ => I (i + 1))) →
    At (F := F) (Ix := Ix) (U := U) (Lvl := Lvl) defs 𝒱 c bd E w m6 m7 m8 X σ (each n f) (fun _ => I n) := by
  induction n with
  | zero => exact fun I h _ => At.pure h
  | succ n ih =>
    intro σ f I h0 hs
    refine At.bind (hs 0 _ σ h0) fun _ σ' h => ?_
    exact ih (fun i => I (i + 1)) h fun i hi σ'' h' => hs (i + 1) _ σ'' h'

theorem vec3_words (c g h x : Nat) (hc : c < 4) (hg : g < 4) (hh : h < 2) (hx : x < 8) :
    (fun j => vec3 1 512 512 (fun _ => X) ((blockRect c g h x hc hg hh hx).idx j))
      = vec3 1 8 128 fun _ s l => X (g * 128 + x * 16 + h * 8 + s) (c * 128 + l) := by
  funext j
  show X (_ + 1 * _) (_ + 1 * _) = _
  rw [Nat.one_mul, Nat.one_mul]; rfl

theorem at_getWords (σ : State) (k g h x : Nat) (hc : k < 4) (hg : g < 4) (hh : h < 2) (hx : x < 8) :
    At (F := F) (Ix := Ix) (U := U) (Lvl := Lvl) defs 𝒱 c bd E w m6 m7 m8 X σ (getWords w k g h x hc hg hh hx)
      (fun v σ' => v = (vec3 1 8 128 fun _ s l => X (g * 128 + x * 16 + h * 8 + s) (k * 128 + l)) ∧ σ' = σ) := by
  unfold At Owned getWords
  iintro ⟨Hw, H⟩
  iapply (wp_wand_r _ _ _)
  isplitl [Hw]
  · iapply (load_owns (defs := defs) (𝒱 := 𝒱) (c := (c.tc : Thread nD τ)) (bd := bd) (E := E) w _ _ _) $$ [Hw]
    iexact Hw
  iintro %v ⟨%hv, Hw⟩
  iexists σ; isplitr
  · ipureintro; exact ⟨hv.trans (vec3_words k g h x hc hg hh hx), rfl⟩
  isplitl [Hw]
  · iexact Hw
  iexact H

theorem at_getStrided (σ : State) (o k : Nat) (h : o + k * 7 < 576) :
    At (F := F) (Ix := Ix) (U := U) (Lvl := Lvl) defs 𝒱 c bd E w m6 m7 m8 X σ (getStrided m7 o k h)
      (fun v σ' => v = (vec2 8 128 fun s l => σ.b (o + k * s) l) ∧ σ' = σ) := by
  unfold At Owned getStrided
  iintro ⟨Hw, H6, H7, H8⟩
  iapply (wp_wand_r _ _ _)
  isplitl [H7]
  · iapply (load_owns (defs := defs) (𝒱 := 𝒱) (c := (c.tc : Thread nD τ)) (bd := bd) (E := E) m7 _ _ _) $$ [H7]
    iexact H7
  iintro %v ⟨%hv, H7⟩
  iexists σ; isplitr
  · ipureintro
    refine ⟨hv.trans (funext fun j => ?_), rfl⟩
    show σ.b (o + k * _) (0 + 1 * _) = _
    rw [Nat.one_mul, Nat.zero_add]
  isplitl [Hw]; · iexact Hw
  isplitl [H6]; · iexact H6
  isplitl [H7]; · iexact H7
  iexact H8

/-- Where an element of a group lies in the first scratch buffer. -/
theorem place_group (g : Nat) (hg : g < 4) (j : S144x128.Idx) :
    place (Rect.unit (s := S4x144x128) ![g, 0, 0] S1x144x128.size (inbGroup g hg)) squeezes j = ix3 ⟨g, hg⟩ (j 0) (j 1) := by
  have e : Shape.reshapeEquiv squeezes.numel_eq j = ix3 (⟨0, Nat.one_pos⟩ : Fin 1) (j 0) (j 1) :=
    (congrArg _ (eq_ix2 j)).trans (reshapeEquiv_ix2_1ab squeezes.numel_eq (j 0) (j 1))
  funext a
  apply Fin.ext
  show (![g, 0, 0] : Fin 3 → Nat) a + 1 * (Shape.reshapeEquiv squeezes.numel_eq j a).val = _
  rw [e]
  match a with
  | ⟨0, _⟩ => rfl
  | ⟨1, _⟩ => exact (Nat.zero_add _).trans (Nat.one_mul _)
  | ⟨2, _⟩ => exact (Nat.zero_add _).trans (Nat.one_mul _)

theorem vec3_place (a : Nat → Nat → Nat → BitVec 32) (g : Nat) (hg : g < 4) (j : S144x128.Idx) :
    vec3 4 144 128 a (place (Rect.unit (s := S4x144x128) ![g, 0, 0] S1x144x128.size (inbGroup g hg)) squeezes j)
      = a g (j 0).val (j 1).val := by
  rw [place_group g hg]

theorem at_getRows (σ : State) (g : Nat) (hg : g < 4) (o : Nat) (h : o + 8 ≤ 144) :
    At (F := F) (Ix := Ix) (U := U) (Lvl := Lvl) defs 𝒱 c bd E w m6 m7 m8 X σ (getRows (group m6 g hg) o h)
      (fun v σ' => v = (vec2 8 128 fun s l => σ.a g (o + s) l) ∧ σ' = σ) := by
  unfold At Owned getRows
  iintro ⟨Hw, H6, H7, H8⟩
  iapply (wp_wand_r _ _ _)
  isplitl [H6]
  · iapply (load_owns_squeeze (defs := defs) (𝒱 := 𝒱) (c := (c.tc : Thread nD τ)) (bd := bd) (E := E) m6 _ _ _ _ _ _) $$ [H6]
    iexact H6
  iintro %v ⟨%hv, H6⟩
  iexists σ; isplitr
  · ipureintro
    refine ⟨hv.trans (funext fun j => (vec3_place σ.a g hg _).trans ?_), rfl⟩
    show σ.a g (o + 1 * _) (0 + 1 * _) = _
    rw [Nat.one_mul, Nat.one_mul, Nat.zero_add]
  isplitl [Hw]; · iexact Hw
  isplitl [H6]; · iexact H6
  isplitl [H7]; · iexact H7
  iexact H8

/-- `f'` is `f` with the rows of `v` in rows `o, o + k, …`. -/
structure Put (v : IVec S8x128 32) (o k : Nat) (f f' : Nat → Nat → BitVec 32) : Prop where
  new : ∀ s l (hs : s < 8) (hl : l < 128), f' (o + k * s) l = v (ix2 ⟨s, hs⟩ ⟨l, hl⟩)
  old : ∀ r l, (∀ s < 8, r ≠ o + k * s) → f' r l = f r l

theorem put_of {N : Nat} (v : IVec S8x128 32) (o k : Nat) (hN : o + k * 7 < N) (f : Nat → Nat → BitVec 32)
    (V : IVec ⟨2, ![N, 128]⟩ 32) (idx : S8x128.Idx → (⟨2, ![N, 128]⟩ : Shape).Idx)
    (h0 : ∀ j, (idx j 0).val = o + k * (j 0).val) (h1 : ∀ j, (idx j 1).val = (j 1).val)
    (hn : ∀ j, V (idx j) = shapeCast S8x128 v cast8 j) (ho : ∀ y, (∀ j, idx j ≠ y) → V y = vec2 N 128 f y) :
    Put v o k f (fun2 V f) := by
  refine ⟨fun s l hs hl => ?_, fun r l hr => ?_⟩
  · have hr : o + k * s < N := Nat.lt_of_le_of_lt (Nat.add_le_add_left (Nat.mul_le_mul_left k (by omega)) o) hN
    rw [fun2, dif_pos ⟨hr, hl⟩]
    have e : ix2 ⟨o + k * s, hr⟩ ⟨l, hl⟩ = idx (ix2 ⟨s, hs⟩ ⟨l, hl⟩) := by
      rw [eq_ix2 (idx _)]
      exact congrArg₂ ix2 (Fin.ext (h0 (ix2 ⟨s, hs⟩ ⟨l, hl⟩)).symm) (Fin.ext (h1 (ix2 ⟨s, hs⟩ ⟨l, hl⟩)).symm)
    rw [e, hn, shapeCast_self]
  · unfold fun2
    split
    · rename_i h
      refine ho _ fun j hj => hr (j 0).val (j 0).isLt ?_
      exact (congrArg (fun y => (y 0).val) hj).symm.trans (h0 j)
    · rfl

theorem at_putStrided (σ : State) (o k : Nat) (h : o + k * 7 < 2048) (hk : 0 < k) (v : IVec S8x128 32) :
    At (F := F) (Ix := Ix) (U := U) (Lvl := Lvl) defs 𝒱 c bd E w m6 m7 m8 X σ (putStrided m8 o k h hk v)
      (fun _ σ' => σ'.a = σ.a ∧ σ'.b = σ.b ∧ Put v o k σ.d σ'.d) := by
  unfold At Owned putStrided
  rw [wp_bind]
  iintro ⟨Hw, H6, H7, H8⟩
  iapply (wp_wand_r _ _ _)
  isplitl [H8]
  · iapply (load_owns (defs := defs) (𝒱 := 𝒱) (c := (c.tc : Thread nD τ)) (bd := bd) (E := E) m8 _ _ _) $$ [H8]
    iexact H8
  iintro %u ⟨%hu, H8⟩
  iapply (wp_wand_r _ _ _)
  isplitl [H8]
  · iapply (store_owns (defs := defs) (𝒱 := 𝒱) (c := (c.tc : Thread nD τ)) (bd := bd) (E := E) m8 _ _ _ _ _) $$ [H8]
    iexact H8
  iintro %u ⟨%V, %hV, H8⟩
  iexists ⟨σ.a, σ.b, fun2 V σ.d⟩; isplitr
  · ipureintro
    refine ⟨rfl, rfl, put_of v o k h σ.d V (fun j => (stridedR 2048 o k h hk).idx j) (fun j => rfl) (fun j => ?_) hV.1 hV.2⟩
    show 0 + 1 * _ = _
    rw [Nat.one_mul, Nat.zero_add]
  isplitl [Hw]; · iexact Hw
  isplitl [H6]; · iexact H6
  isplitl [H7]; · iexact H7
  rw [vec2_fun2]
  iexact H8

theorem at_putRows (σ : State) (o : Nat) (h : o + 8 ≤ 576) (v : IVec S8x128 32) :
    At (F := F) (Ix := Ix) (U := U) (Lvl := Lvl) defs 𝒱 c bd E w m6 m7 m8 X σ (putRows m7 o h v)
      (fun _ σ' => σ'.a = σ.a ∧ σ'.d = σ.d ∧ Put v o 1 σ.b σ'.b) := by
  unfold At Owned putRows
  rw [wp_bind]
  iintro ⟨Hw, H6, H7, H8⟩
  iapply (wp_wand_r _ _ _)
  isplitl [H7]
  · iapply (load_owns (defs := defs) (𝒱 := 𝒱) (c := (c.tc : Thread nD τ)) (bd := bd) (E := E) m7 _ _ _) $$ [H7]
    iexact H7
  iintro %u ⟨%hu, H7⟩
  iapply (wp_wand_r _ _ _)
  isplitl [H7]
  · iapply (store_owns (defs := defs) (𝒱 := 𝒱) (c := (c.tc : Thread nD τ)) (bd := bd) (E := E) m7 _ _ _ _ _) $$ [H7]
    iexact H7
  iintro %u ⟨%V, %hV, H7⟩
  iexists ⟨σ.a, fun2 V σ.b, σ.d⟩; isplitr
  · ipureintro
    refine ⟨rfl, rfl, put_of v o 1 (by omega) σ.b V (fun j => (rows 576 o h).idx j) (fun j => rfl) (fun j => ?_) hV.1 hV.2⟩
    show 0 + 1 * _ = _
    rw [Nat.one_mul, Nat.zero_add]
  isplitl [Hw]; · iexact Hw
  isplitl [H6]; · iexact H6
  isplitl [H7]
  · rw [vec2_fun2]
    iexact H7
  iexact H8

/-- The group's slice of what a store through it leaves, and the other groups. -/
theorem put_group (v : IVec S8x128 32) (g : Nat) (hg : g < 4) (o k : Nat) (h : o + k * 7 < 144) (hk : 0 < k)
    (a : Nat → Nat → Nat → BitVec 32) (V : IVec S4x144x128 32)
    (hn : ∀ j, V (place (Rect.unit (s := S4x144x128) ![g, 0, 0] S1x144x128.size (inbGroup g hg)) squeezes ((stridedR 144 o k h hk).idx j))
      = shapeCast S8x128 v cast8 j)
    (ho : ∀ y, (∀ j, place (Rect.unit (s := S4x144x128) ![g, 0, 0] S1x144x128.size (inbGroup g hg)) squeezes ((stridedR 144 o k h hk).idx j) ≠ y)
      → V y = vec3 4 144 128 a y) :
    Put v o k (a g) (fun3 V a g) ∧ ∀ g' ≠ g, fun3 V a g' = a g' := by
  have hp := place_group g hg
  constructor
  · have e : fun3 V a g = fun2 (m := 144) (n := 128) (fun j => V (ix3 ⟨g, hg⟩ (j 0) (j 1))) (a g) := by
      funext i j
      simp only [fun3, fun2, hg, true_and]
    rw [e]
    refine put_of v o k h (a g) _ (fun j => (stridedR 144 o k h hk).idx j) (fun j => rfl) (fun j => ?_) (fun j => ?_) (fun y hy => ?_)
    · show 0 + 1 * _ = _
      rw [Nat.one_mul, Nat.zero_add]
    · rw [← hn j, hp]; rfl
    · refine ho _ fun j hj => hy j ?_
      rw [hp] at hj
      rw [eq_ix2 ((stridedR 144 o k h hk).idx j), eq_ix2 y]
      exact congrArg₂ ix2 (congrFun hj 1) (congrFun hj 2)
  · intro g' hne
    funext i l
    unfold fun3
    split
    · refine ho _ fun j hj => hne ?_
      rw [hp] at hj
      exact (congrArg Fin.val (congrFun hj 0)).symm
    · rfl

theorem at_putGroup (σ : State) (g : Nat) (hg : g < 4) (o k : Nat) (h : o + k * 7 < 144) (hk : 0 < k) (v : IVec S8x128 32) :
    At (F := F) (Ix := Ix) (U := U) (Lvl := Lvl) defs 𝒱 c bd E w m6 m7 m8 X σ (putStrided (group m6 g hg) o k h hk v)
      (fun _ σ' => σ'.b = σ.b ∧ σ'.d = σ.d ∧ Put v o k (σ.a g) (σ'.a g) ∧ ∀ g' ≠ g, σ'.a g' = σ.a g') := by
  unfold At Owned putStrided
  rw [wp_bind]
  iintro ⟨Hw, H6, H7, H8⟩
  iapply (wp_wand_r _ _ _)
  isplitl [H6]
  · iapply (load_owns_squeeze (defs := defs) (𝒱 := 𝒱) (c := (c.tc : Thread nD τ)) (bd := bd) (E := E) m6 _ _ _ _ _ _) $$ [H6]
    iexact H6
  iintro %u ⟨%hu, H6⟩
  iapply (wp_wand_r _ _ _)
  isplitl [H6]
  · iapply (store_owns_squeeze (defs := defs) (𝒱 := 𝒱) (c := (c.tc : Thread nD τ)) (bd := bd) (E := E) m6 _ _ _ _ _ _ _ _) $$ [H6]
    iexact H6
  iintro %u ⟨%V, %hV, H6⟩
  iexists ⟨fun3 V σ.a, σ.b, σ.d⟩; isplitr
  · ipureintro
    exact ⟨rfl, rfl, put_group v g hg o k h hk σ.a V hV.1 hV.2⟩
  isplitl [Hw]; · iexact Hw
  isplitl [H6]
  · rw [vec3_fun3]
    iexact H6
  isplitl [H7]; · iexact H7
  iexact H8

end Rules

end Repack

end
-- ==== Proof.Exchange.lean ====
/-
  What the loops of the body compute. Chunk by chunk the first scratch buffer holds nibbles gathered over
  eight rows of words, the second one its transpose, and the third one nibbles gathered over eight columns:
  a gather of gathers, which is a gather of the words again (`gather_gather`).
-/
module

public import proofs.«01_k».proof.Proof.Bits
public import proofs.«01_k».proof.Proof.State

@[expose] public section

noncomputable section

namespace Repack

open Idealize.ShloMosaic hiding ix1 ix2 ix3
open Idealize.ShloMosaic.ValueIdx
open Idealize.SL Idealize.SL.RA Idealize.SL.BI
open Idealize.SL.Sem

/-- Gathering at word position `x` what was gathered at position `f` over `x` exchanges the two. -/
theorem gather_gather (x f : Nat) (hx : x < 8) (Y : Nat → Nat → BitVec 32) :
    gather x (fun e => gather f fun y => Y y.val e.val) = gather f fun e => Y x e.val := by
  apply BitVec.eq_of_getLsbD_eq
  intro i hi
  rw [gather_bit _ _ _ hi, gather_bit _ _ _ (show 4 * x + i % 4 < 32 by omega), gather_bit _ _ _ hi]
  have h1 : (4 * x + i % 4) / 4 = x := by omega
  have h2 : (4 * x + i % 4) % 4 = i % 4 := by omega
  simp only [h1, h2]

variable {s : Shape}

theorem nib_fun (f : Nat) (hf : f < 8) (u : Fin 8 → IVec s 32) (j : s.Idx) :
    nib (bit f 1) (bit f 2) (bit f 4) (u 0) (u 1) (u 2) (u 3) (u 4) (u 5) (u 6) (u 7) j = gather f fun e => u e j := by
  rw [nib_eq f hf]; rfl

/-- A row of sixteen blocks of eight rows. -/
theorem tile_apply (u : Fin 16 → IVec S8x128 32) (q l : Fin 128) :
    tile (u 0) (u 1) (u 2) (u 3) (u 4) (u 5) (u 6) (u 7) (u 8) (u 9) (u 10) (u 11) (u 12) (u 13) (u 14) (u 15) (ix2 q l)
      = u ⟨q.val / 8, by omega⟩ (ix2 ⟨q.val % 8, by omega⟩ l) :=
  concatenate_ofFn_apply (t := S128x128) (s₁ := S8x128) 0 u concatenates rfl 8 rfl (ix2 q l) ⟨q.val / 8, by omega⟩ rfl
    (ix2 ⟨q.val % 8, by omega⟩ l) rfl (fun b hb => by
      match b with
      | ⟨0, _⟩ => exact absurd rfl hb
      | ⟨1, _⟩ => rfl)

/-- Rows `8 j, …, 8 j + 7` of the transpose of sixteen blocks of eight rows. -/
theorem turned_apply (u : Fin 16 → IVec S8x128 32) (j : Nat) (hj : j < 16) (e : Fin 8) (l : Fin 128) :
    extractStridedSlice S8x128 ![j * 8, 0] (transpose S128x128 [1, 0]
      (tile (u 0) (u 1) (u 2) (u 3) (u 4) (u 5) (u 6) (u 7) (u 8) (u 9) (u 10) (u 11) (u 12) (u 13) (u 14) (u 15)) transposes)
      (slices j hj) (ix2 e l)
      = u ⟨l.val / 8, by omega⟩ (ix2 ⟨l.val % 8, by omega⟩ ⟨j * 8 + e.val, by omega⟩) := by
  have hlt : j * 8 + e.val < 128 := by omega
  rw [extractStridedSlice_apply _ _ (slices j hj) (ix2 e l) (ix2 ⟨j * 8 + e.val, hlt⟩ l) (fun a => by
    match a with
    | ⟨0, _⟩ => rfl
    | ⟨1, _⟩ => exact (Nat.zero_add _).symm)]
  rw [transpose_apply _ _ transposes (ix2 ⟨j * 8 + e.val, hlt⟩ l) (ix2 l ⟨j * 8 + e.val, hlt⟩) (fun b => by
    match b with
    | ⟨0, _⟩ => rfl
    | ⟨1, _⟩ => rfl)]
  exact tile_apply u l ⟨j * 8 + e.val, hlt⟩

section Specs

variable {F : FTy → Type} [FloatOps F] {nD : Nat} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V} {E : Set Name}
variable {w : Memref sig .tc .vmem S1x512x512 .i32} {m6 : Memref sig .tc .vmem S4x144x128 .i32}
variable {m7 : Memref sig .tc .vmem S576x128 .i32} {m8 : Memref sig .tc .vmem S2048x128 .i32}
variable {X : Nat → Nat → BitVec 32}

/-- Nibble `f` of the words of column `l` of chunk `k`, eight rows `16` apart from row `i` of group `g`. -/
def W (X : Nat → Nat → BitVec 32) (k g f i l : Nat) : BitVec 32 :=
  gather f fun x => X (g * 128 + x.val * 16 + i) (k * 128 + l)

/-- The word of row `r` and lane `l` of the repacked block. -/
def out (X : Nat → Nat → BitVec 32) (r l : Nat) : BitVec 32 :=
  gather (l % 8) fun e => X (r % 32 / 8 * 128 + r % 8 * 16 + l / 8) (r / 512 * 128 + r % 512 / 32 * 8 + e.val)

/-- A row block leaves its gathered nibbles in its rows of its group. -/
theorem at_rowBlock (σ : State) (k g h : Nat) (hc : k < 4) (hg : g < 4) (hh : h < 2) :
    At (F := F) (Ix := Ix) (U := U) (Lvl := Lvl) defs 𝒱 c bd E w m6 m7 m8 X σ (rowBlock w m6 k g h hc hg hh)
      (fun _ σ' => σ'.b = σ.b ∧ σ'.d = σ.d
        ∧ (∀ f s l, f < 8 → s < 8 → l < 128 → σ'.a g ((h * 8 + s) * 9 + f) l = W X k g f (h * 8 + s) l)
        ∧ ∀ r l, r < h * 72 ∨ h * 72 + 72 ≤ r → σ'.a g r l = σ.a g r l) := by
  unfold rowBlock
  refine At.bind (at_getWords σ k g h 0 hc hg hh (by decide)) ?_; rintro _ σ ⟨rfl, rfl⟩
  refine At.bind (at_getWords σ k g h 1 hc hg hh (by decide)) ?_; rintro _ σ ⟨rfl, rfl⟩
  refine At.bind (at_getWords σ k g h 2 hc hg hh (by decide)) ?_; rintro _ σ ⟨rfl, rfl⟩
  refine At.bind (at_getWords σ k g h 3 hc hg hh (by decide)) ?_; rintro _ σ ⟨rfl, rfl⟩
  refine At.bind (at_getWords σ k g h 4 hc hg hh (by decide)) ?_; rintro _ σ ⟨rfl, rfl⟩
  refine At.bind (at_getWords σ k g h 5 hc hg hh (by decide)) ?_; rintro _ σ ⟨rfl, rfl⟩
  refine At.bind (at_getWords σ k g h 6 hc hg hh (by decide)) ?_; rintro _ σ ⟨rfl, rfl⟩
  refine At.bind (at_getWords σ k g h 7 hc hg hh (by decide)) ?_; rintro _ σ ⟨rfl, rfl⟩
  refine At.each 8 (fun n σ' => σ'.b = σ.b ∧ σ'.d = σ.d
        ∧ (∀ f s l, f < n → s < 8 → l < 128 → σ'.a g ((h * 8 + s) * 9 + f) l = W X k g f (h * 8 + s) l)
        ∧ ∀ r l, r < h * 72 ∨ h * 72 + 72 ≤ r → σ'.a g r l = σ.a g r l)
    ⟨rfl, rfl, fun f s l hf => absurd hf (Nat.not_lt_zero f), fun _ _ _ => rfl⟩ ?_
  rintro n hn σ' ⟨hb, hd, ha, ho⟩
  refine At.mono (at_putGroup σ' g hg (h * 72 + n) 9 (by omega) (by decide) _) ?_
  rintro _ σ'' ⟨hb', hd', hp, -⟩
  refine ⟨hb'.trans hb, hd'.trans hd, fun f s l hf hs hl => ?_, fun r l hr => ?_⟩
  · by_cases hfn : f = n
    · subst hfn
      rw [show (h * 8 + s) * 9 + f = h * 72 + f + 9 * s by omega, hp.new s l hs hl]
      refine (nib_fun f hn (fun x : Fin 8 => shapeCast S8x128
        (vec3 1 8 128 fun _ s l => X (g * 128 + x.val * 16 + h * 8 + s) (k * 128 + l)) cast1x8) _).trans ?_
      refine congrArg (gather f) (funext fun x => ?_)
      rw [shapeCast_1ab_ab_apply]
      show X (g * 128 + x.val * 16 + h * 8 + s) (k * 128 + l) = _
      rw [Nat.add_assoc (g * 128 + x.val * 16)]
    · rw [hp.old _ l fun s' hs' => by omega]
      exact ha f s l (by omega) hs hl
  · rw [hp.old r l fun s' hs' => by omega]
    exact ho r l hr

/-- A group's tile, transposed. -/
theorem at_turn (σ : State) (k g : Nat) (hg : g < 4)
    (H : ∀ f i l, f < 8 → i < 16 → l < 128 → σ.a g (i * 9 + f) l = W X k g f i l) :
    At (F := F) (Ix := Ix) (U := U) (Lvl := Lvl) defs 𝒱 c bd E w m6 m7 m8 X σ (turn m6 m7 g hg)
      (fun _ σ' => σ'.d = σ.d
        ∧ (∀ j e l, j < 16 → e < 8 → l < 128 → σ'.b ((j * 4 + g) * 9 + e) l = W X k g (l % 8) (l / 8) (j * 8 + e))
        ∧ ∀ g' j e l, g' < 4 → g' ≠ g → e < 8 → σ'.b ((j * 4 + g') * 9 + e) l = σ.b ((j * 4 + g') * 9 + e) l) := by
  unfold turn
  refine At.bind (at_getRows σ g hg 0 (by decide)) ?_; rintro _ σ ⟨rfl, rfl⟩
  refine At.bind (at_getRows σ g hg 9 (by decide)) ?_; rintro _ σ ⟨rfl, rfl⟩
  refine At.bind (at_getRows σ g hg 18 (by decide)) ?_; rintro _ σ ⟨rfl, rfl⟩
  refine At.bind (at_getRows σ g hg 27 (by decide)) ?_; rintro _ σ ⟨rfl, rfl⟩
  refine At.bind (at_getRows σ g hg 36 (by decide)) ?_; rintro _ σ ⟨rfl, rfl⟩
  refine At.bind (at_getRows σ g hg 45 (by decide)) ?_; rintro _ σ ⟨rfl, rfl⟩
  refine At.bind (at_getRows σ g hg 54 (by decide)) ?_; rintro _ σ ⟨rfl, rfl⟩
  refine At.bind (at_getRows σ g hg 63 (by decide)) ?_; rintro _ σ ⟨rfl, rfl⟩
  refine At.bind (at_getRows σ g hg 72 (by decide)) ?_; rintro _ σ ⟨rfl, rfl⟩
  refine At.bind (at_getRows σ g hg 81 (by decide)) ?_; rintro _ σ ⟨rfl, rfl⟩
  refine At.bind (at_getRows σ g hg 90 (by decide)) ?_; rintro _ σ ⟨rfl, rfl⟩
  refine At.bind (at_getRows σ g hg 99 (by decide)) ?_; rintro _ σ ⟨rfl, rfl⟩
  refine At.bind (at_getRows σ g hg 108 (by decide)) ?_; rintro _ σ ⟨rfl, rfl⟩
  refine At.bind (at_getRows σ g hg 117 (by decide)) ?_; rintro _ σ ⟨rfl, rfl⟩
  refine At.bind (at_getRows σ g hg 126 (by decide)) ?_; rintro _ σ ⟨rfl, rfl⟩
  refine At.bind (at_getRows σ g hg 135 (by decide)) ?_; rintro _ σ ⟨rfl, rfl⟩
  refine At.each 16 (fun n σ' => σ'.d = σ.d
        ∧ (∀ j e l, j < n → e < 8 → l < 128 → σ'.b ((j * 4 + g) * 9 + e) l = W X k g (l % 8) (l / 8) (j * 8 + e))
        ∧ ∀ g' j e l, g' < 4 → g' ≠ g → e < 8 → σ'.b ((j * 4 + g') * 9 + e) l = σ.b ((j * 4 + g') * 9 + e) l)
    ⟨rfl, fun j _ _ hj => absurd hj (Nat.not_lt_zero j), fun _ _ _ _ _ _ _ => rfl⟩ ?_
  rintro n hn σ' ⟨hd, hb, ho⟩
  refine At.mono (at_putRows σ' ((n * 4 + g) * 9) (by omega) _) ?_
  rintro _ σ'' ⟨-, hd', hp⟩
  refine ⟨hd'.trans hd, fun j e l hj he hl => ?_, fun g' j e l hg' hne he => ?_⟩
  · by_cases hjn : j = n
    · subst hjn
      rw [show (j * 4 + g) * 9 + e = (j * 4 + g) * 9 + 1 * e by omega, hp.new e l he hl]
      refine (turned_apply (fun i : Fin 16 => vec2 8 128 fun s l => σ.a g (i.val * 9 + s) l) j hn ⟨e, he⟩ ⟨l, hl⟩).trans ?_
      exact H (l % 8) (l / 8) (j * 8 + e) (by omega) (by omega) (by omega)
    · rw [hp.old _ l fun s' hs' => by omega]
      exact hb j e l (by omega) he hl
  · rw [hp.old _ l fun s' hs' => by omega]
    exact ho g' j e l hg' hne he

/-- Eight transposed rows per position, gathered: eight rows of the repacked block per position. -/
theorem at_outBlock (σ : State) (k p : Nat) (hc : k < 4) (hp : p < 8)
    (H : ∀ g j e l, g < 4 → j < 16 → e < 8 → l < 128 → σ.b ((j * 4 + g) * 9 + e) l = W X k g (l % 8) (l / 8) (j * 8 + e)) :
    At (F := F) (Ix := Ix) (U := U) (Lvl := Lvl) defs 𝒱 c bd E w m6 m7 m8 X σ (outBlock m7 m8 k p hc hp)
      (fun _ σ' => σ'.b = σ.b
        ∧ (∀ r l, k * 512 + p * 64 ≤ r → r < k * 512 + p * 64 + 64 → l < 128 → σ'.d r l = out X r l)
        ∧ ∀ r l, r < k * 512 + p * 64 → σ'.d r l = σ.d r l) := by
  unfold outBlock
  refine At.bind (at_getStrided σ (p * 72 + 0) 9 (by omega)) ?_; rintro _ σ ⟨rfl, rfl⟩
  refine At.bind (at_getStrided σ (p * 72 + 1) 9 (by omega)) ?_; rintro _ σ ⟨rfl, rfl⟩
  refine At.bind (at_getStrided σ (p * 72 + 2) 9 (by omega)) ?_; rintro _ σ ⟨rfl, rfl⟩
  refine At.bind (at_getStrided σ (p * 72 + 3) 9 (by omega)) ?_; rintro _ σ ⟨rfl, rfl⟩
  refine At.bind (at_getStrided σ (p * 72 + 4) 9 (by omega)) ?_; rintro _ σ ⟨rfl, rfl⟩
  refine At.bind (at_getStrided σ (p * 72 + 5) 9 (by omega)) ?_; rintro _ σ ⟨rfl, rfl⟩
  refine At.bind (at_getStrided σ (p * 72 + 6) 9 (by omega)) ?_; rintro _ σ ⟨rfl, rfl⟩
  refine At.bind (at_getStrided σ (p * 72 + 7) 9 (by omega)) ?_; rintro _ σ ⟨rfl, rfl⟩
  refine At.mono (At.each 8 (fun n σ' => σ'.b = σ.b
        ∧ (∀ s x l, s < 8 → x < n → l < 128 → σ'.d (k * 512 + p * 64 + s * 8 + x) l = out X (k * 512 + p * 64 + s * 8 + x) l)
        ∧ ∀ r l, r < k * 512 + p * 64 → σ'.d r l = σ.d r l)
    ⟨rfl, fun _ x _ _ hx => absurd hx (Nat.not_lt_zero x), fun _ _ _ => rfl⟩ ?_) ?_
  · rintro n hn σ' ⟨hb, hd, ho⟩
    refine At.mono (at_putStrided σ' (k * 512 + p * 64 + n) 8 (by omega) (by decide) _) ?_
    rintro _ σ'' ⟨-, hb', hp'⟩
    refine ⟨hb'.trans hb, fun s x l hs hx hl => ?_, fun r l hr => ?_⟩
    · by_cases hxn : x = n
      · subst hxn
        rw [show k * 512 + p * 64 + s * 8 + x = k * 512 + p * 64 + x + 8 * s by omega, hp'.new s l hs hl]
        refine (nib_fun x hn (fun e : Fin 8 => vec2 8 128 fun s l => σ.b (p * 72 + e.val + 9 * s) l) _).trans ?_
        have e1 : (fun e : Fin 8 => σ.b (p * 72 + e.val + 9 * s) l)
            = fun e : Fin 8 => gather (l % 8) fun y => X ((p * 8 + s) % 4 * 128 + y.val * 16 + l / 8) (k * 128 + ((p * 8 + s) / 4 * 8 + e.val)) := by
          funext e
          have := H ((p * 8 + s) % 4) ((p * 8 + s) / 4) e.val l (by omega) (by omega) e.isLt hl
          rw [show ((p * 8 + s) / 4 * 4 + (p * 8 + s) % 4) * 9 + e.val = p * 72 + e.val + 9 * s by omega] at this
          exact this
        refine (congrArg (gather x) e1).trans ?_
        rw [gather_gather x (l % 8) hn fun y e => X ((p * 8 + s) % 4 * 128 + y * 16 + l / 8) (k * 128 + ((p * 8 + s) / 4 * 8 + e))]
        unfold out
        refine congrArg (gather (l % 8)) (funext fun e => congrArg₂ X ?_ ?_) <;> omega
      · rw [hp'.old _ l fun s' hs' => by omega]
        exact hd s x l hs (by omega) hl
    · rw [hp'.old _ l fun s' hs' => by omega]
      exact ho r l hr
  · rintro _ σ' ⟨hb, hd, ho⟩
    refine ⟨hb, fun r l h1 h2 hl => ?_, ho⟩
    have := hd ((r - (k * 512 + p * 64)) / 8) ((r - (k * 512 + p * 64)) % 8) l (by omega) (by omega) hl
    rwa [show k * 512 + p * 64 + (r - (k * 512 + p * 64)) / 8 * 8 + (r - (k * 512 + p * 64)) % 8 = r by omega] at this

/-- All chunks: the third scratch buffer holds the repacked block. -/
theorem at_chunks (σ : State) :
    At (F := F) (Ix := Ix) (U := U) (Lvl := Lvl) defs 𝒱 c bd E w m6 m7 m8 X σ (chunks w m6 m7 m8)
      (fun _ σ' => ∀ r l, r < 2048 → l < 128 → σ'.d r l = out X r l) := by
  unfold chunks
  refine At.each 4 (fun n σ' => ∀ r l, r < n * 512 → l < 128 → σ'.d r l = out X r l) (fun r _ hr => by omega) ?_
  intro k hk σ0 h0
  refine At.bind (Q := fun _ σ' => σ'.d = σ0.d
      ∧ ∀ g j e l, g < 4 → j < 16 → e < 8 → l < 128 → σ'.b ((j * 4 + g) * 9 + e) l = W X k g (l % 8) (l / 8) (j * 8 + e)) ?_ ?_
  · refine At.each 4 (fun n σ' => σ'.d = σ0.d
      ∧ ∀ g j e l, g < n → j < 16 → e < 8 → l < 128 → σ'.b ((j * 4 + g) * 9 + e) l = W X k g (l % 8) (l / 8) (j * 8 + e))
      ⟨rfl, fun g _ _ _ hg => absurd hg (Nat.not_lt_zero g)⟩ ?_
    rintro g hg σ1 ⟨hd, hb⟩
    refine At.bind (Q := fun _ σ' => σ'.b = σ1.b ∧ σ'.d = σ1.d
        ∧ ∀ f i l, f < 8 → i < 16 → l < 128 → σ'.a g (i * 9 + f) l = W X k g f i l) ?_ ?_
    · refine At.each 2 (fun n σ' => σ'.b = σ1.b ∧ σ'.d = σ1.d
        ∧ ∀ f i l, f < 8 → i < 8 * n → l < 128 → σ'.a g (i * 9 + f) l = W X k g f i l)
        ⟨rfl, rfl, fun f i l _ hi => absurd hi (Nat.not_lt_zero i)⟩ ?_
      rintro h hh σ2 ⟨hb2, hd2, ha2⟩
      refine At.mono (at_rowBlock σ2 k g h hk hg hh) ?_
      rintro _ σ3 ⟨hb3, hd3, ha3, ho3⟩
      refine ⟨hb3.trans hb2, hd3.trans hd2, fun f i l hf hi hl => ?_⟩
      by_cases hih : i < 8 * h
      · rw [ho3 _ l (by omega)]; exact ha2 f i l hf hih hl
      · have := ha3 f (i - h * 8) l hf (by omega) hl
        rwa [show h * 8 + (i - h * 8) = i by omega] at this
    · rintro _ σ2 ⟨hb2, hd2, ha2⟩
      refine At.mono (at_turn σ2 k g hg ha2) ?_
      rintro _ σ3 ⟨hd3, hb3, ho3⟩
      refine ⟨hd3.trans (hd2.trans hd), fun g' j e l hg' hj he hl => ?_⟩
      by_cases hgg : g' = g
      · subst hgg; exact hb3 j e l hj he hl
      · rw [ho3 g' j e l (by omega) hgg he, hb2]
        exact hb g' j e l (by omega) hj he hl
  · rintro _ σ1 ⟨hd, hb⟩
    refine At.mono (At.each 8 (fun n σ' => σ'.b = σ1.b ∧ ∀ r l, r < k * 512 + n * 64 → l < 128 → σ'.d r l = out X r l)
      ⟨rfl, fun r l hr hl => ?_⟩ ?_) ?_
    · rw [hd]; exact h0 r l (by omega) hl
    · rintro p hp σ2 ⟨hb2, hd2⟩
      refine At.mono (at_outBlock σ2 k p hk hp (by rw [hb2]; exact hb)) ?_
      rintro _ σ3 ⟨hb3, hd3, ho3⟩
      refine ⟨hb3.trans hb2, fun r l hr hl => ?_⟩
      by_cases hrp : r < k * 512 + p * 64
      · rw [ho3 r l hrp]; exact hd2 r l hrp hl
      · exact hd3 r l (by omega) (by omega) hl
    · rintro _ σ2 ⟨-, h⟩ r l hr hl
      exact h r l (by omega) hl

end Specs

end Repack

end
-- ==== Proof.Triple.lean ====
/-
  The body as a whole: from a block of words and a block of scales it leaves the bytes of the repacked
  words and the scales.
-/
module

public import proofs.«01_k».proof.Proof.Exchange

@[expose] public section

noncomputable section

namespace Repack

open Idealize.ShloMosaic hiding ix1 ix2 ix3 eq_ix1 eq_ix2 eq_ix3
open Idealize.ShloMosaic.ValueIdx
open Idealize.SL Idealize.SL.RA Idealize.SL.BI
open scoped Idealize.SL.BI
open Idealize.SL.BI.BIBase Idealize.SL.BI.Laws Idealize.SL.ProofMode Idealize.SL.Sem

/-- The words of a block by row and column. -/
def words (x : IVec S1x512x512 32) (r l : Nat) : BitVec 32 := fun3 x (fun _ _ _ => 0#32) 0 r l

theorem words_apply (x : IVec S1x512x512 32) (r l : Nat) (hr : r < 512) (hl : l < 512) :
    words x r l = x (ix3 0 ⟨r, hr⟩ ⟨l, hl⟩) := by
  rw [words, fun3, dif_pos ⟨Nat.one_pos, hr, hl⟩]; rfl

theorem vec3_words_eq (x : IVec S1x512x512 32) : vec3 1 512 512 (fun _ => words x) = x := by
  funext j
  show words x (j 1).val (j 2).val = x j
  rw [words_apply x _ _ (j 1).isLt (j 2).isLt]
  refine congrArg x ?_
  have : j 0 = (0 : Fin 1) := Subsingleton.elim (α := Fin 1) _ _
  conv_rhs => rw [eq_ix3 j, this]
  rfl

/-- The repacked words of a block. -/
def outWords (x : IVec S1x512x512 32) : IVec S2048x128 32 := vec2 2048 128 (out (words x))

/-- The bytes of the repacked words of a block. -/
def outBytes (x : IVec S1x512x512 32) : IVec S8192x128 8 := bitcast S8192x128 8 (outWords x) bitcasts

theorem unit_idx {s : Shape} (off : Fin s.rank → Nat) (h0 : ∀ a, off a = 0) (hb : ∀ a, off a + s.size a ≤ s.size a) (j : s.Idx) :
    (Rect.unit (s := s) off s.size hb).idx j = j := by
  funext a
  apply Fin.ext
  show off a + 1 * (j a).val = (j a).val
  rw [h0, Nat.zero_add, Nat.one_mul]

theorem idx_scales (j : S1x32x512.Idx) : (Rect.unit (s := S1x32x512) ![0, 0, 0] S1x32x512.size inbScales).idx j = j :=
  unit_idx (s := S1x32x512) _ (fun a => by fin_cases a <;> rfl) _ j
theorem idx_2048 (j : S2048x128.Idx) : (Rect.unit (s := S2048x128) ![0, 0] S2048x128.size inb2048).idx j = j :=
  unit_idx (s := S2048x128) _ (fun a => by fin_cases a <;> rfl) _ j
theorem idx_8192 (j : S8192x128.Idx) : (Rect.unit (s := S8192x128) ![0, 0] S8192x128.size inb8192).idx j = j :=
  unit_idx (s := S8192x128) _ (fun a => by fin_cases a <;> rfl) _ j

section Triple

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

/-- The body's triple. -/
theorem body_triple (defs : Defs nD τ sig (Elt F) Λ) (𝒱 : Variants) (c : Dev nD) (bd : Option 𝒱.V) (E : Set Name)
    (w : Memref sig .tc .vmem S1x512x512 .i32) (sc : Memref sig .tc .vmem S1x32x512 .f32)
    (t : Memref sig .tc .vmem S8192x128 .i8) (ht : t.IsWhole) (ts : Memref sig .tc .vmem S1x32x512 .f32)
    (m6 : Memref sig .tc .vmem S4x144x128 .i32) (m7 : Memref sig .tc .vmem S576x128 .i32) (m8 : Memref sig .tc .vmem S2048x128 .i32)
    (x0 : Vec F S1x512x512 .i32) (x1 : Vec F S1x32x512 .f32) :
    (iprop(owns (c.tc : Thread nD τ) w fullShare x0 ∗ owns (c.tc : Thread nD τ) sc fullShare x1
      ∗ (∃ d, owns (c.tc : Thread nD τ) t fullShare d) ∗ (∃ d, owns (c.tc : Thread nD τ) ts fullShare d)
      ∗ (∃ d, owns (c.tc : Thread nD τ) m6 fullShare d) ∗ (∃ d, owns (c.tc : Thread nD τ) m7 fullShare d)
      ∗ (∃ d, owns (c.tc : Thread nD τ) m8 fullShare d)) : sProp 𝕄)
      ⊢ wp frame (wpE defs 𝒱 (c.tc : Thread nD τ) bd) E (body w sc t ht ts m6 m7 m8)
        (fun _ => iprop(owns (c.tc : Thread nD τ) w fullShare x0 ∗ owns (c.tc : Thread nD τ) sc fullShare x1
          ∗ owns (c.tc : Thread nD τ) t fullShare (outBytes x0) ∗ owns (c.tc : Thread nD τ) ts fullShare x1
          ∗ (∃ d, owns (c.tc : Thread nD τ) m6 fullShare d) ∗ (∃ d, owns (c.tc : Thread nD τ) m7 fullShare d)
          ∗ (∃ d, owns (c.tc : Thread nD τ) m8 fullShare d))) := by
  unfold body
  simp only [wp_bind]
  iintro ⟨Hw, Hs, ⟨%d2, Ht⟩, ⟨%d3, Hu⟩, ⟨%d6, H6⟩, ⟨%d7, H7⟩, ⟨%d8, H8⟩⟩
  iapply (wp_wand_r _ _ _)
  isplitl [Hs]
  · iapply (load_owns (defs := defs) (𝒱 := 𝒱) (c := (c.tc : Thread nD τ)) (bd := bd) (E := E) sc _ _ _) $$ [Hs]
    iexact Hs
  iintro %v ⟨%hv, Hs⟩
  iapply (wp_wand_r _ _ _)
  isplitl [Hu]
  · iapply (load_owns (defs := defs) (𝒱 := 𝒱) (c := (c.tc : Thread nD τ)) (bd := bd) (E := E) ts _ _ _) $$ [Hu]
    iexact Hu
  iintro %v' ⟨%hv', Hu⟩
  iapply (wp_wand_r _ _ _)
  isplitl [Hu]
  · iapply (store_owns (defs := defs) (𝒱 := 𝒱) (c := (c.tc : Thread nD τ)) (bd := bd) (E := E) ts _ _ _ _ _) $$ [Hu]
    iexact Hu
  iintro %u ⟨%V, %hV, Hu⟩
  have eV : V = x1 := by
    funext j
    refine (congrArg V (idx_scales j)).symm.trans ((hV.1 j).trans ?_)
    rw [hv]
    exact congrArg x1 (idx_scales j)
  subst eV
  iapply (wp_wand_r _ _ _)
  isplitl [Hw H6 H7 H8]
  · have h := at_chunks (F := F) (Ix := Ix) (Name := Name) (U := U) (Lvl := Lvl) (defs := defs) (𝒱 := 𝒱) (c := c) (bd := bd) (E := E)
      (w := w) (m6 := m6) (m7 := m7) (m8 := m8) (X := words x0)
      ⟨fun3 d6 (fun _ _ _ => 0#32), fun2 d7 (fun _ _ => 0#32), fun2 d8 (fun _ _ => 0#32)⟩
    unfold At at h
    iapply h $$ [Hw H6 H7 H8]
    unfold Owned
    rw [vec3_words_eq, vec3_fun3, vec2_fun2, vec2_fun2]
    isplitl [Hw]; · iexact Hw
    isplitl [H6]; · iexact H6
    isplitl [H7]; · iexact H7
    iexact H8
  iintro %u' ⟨%σ, %hσ, H⟩
  have eσ : vec2 2048 128 σ.d = outWords x0 := funext fun j => hσ (j 0).val (j 1).val (j 0).isLt (j 1).isLt
  unfold Owned
  rw [vec3_words_eq, eσ]
  icases H with ⟨Hw, H6, H7, H8⟩
  iapply (wp_wand_r _ _ _)
  isplitl [H8]
  · iapply (load_owns (defs := defs) (𝒱 := 𝒱) (c := (c.tc : Thread nD τ)) (bd := bd) (E := E) m8 _ _ _) $$ [H8]
    iexact H8
  iintro %y ⟨%hy, H8⟩
  iapply (wp_wand_r _ _ _)
  isplitl [Ht]
  · iapply (load_owns (defs := defs) (𝒱 := 𝒱) (c := (c.tc : Thread nD τ)) (bd := bd) (E := E) t _ _ _) $$ [Ht]
    iexact Ht
  iintro %y' ⟨%hy', Ht⟩
  iapply (wp_wand_r _ _ _)
  isplitl [Ht]
  · iapply (store_owns (defs := defs) (𝒱 := 𝒱) (c := (c.tc : Thread nD τ)) (bd := bd) (E := E) t _ _ _ _ _) $$ [Ht]
    iexact Ht
  iintro %z ⟨%T, %hT, Ht⟩
  have ey : y = outWords x0 := by
    rw [hy]
    exact funext fun j => congrArg (outWords x0) (idx_2048 j)
  have eT : T = outBytes x0 := by
    funext j
    refine (congrArg T (idx_8192 j)).symm.trans ((hT.1 j).trans ?_)
    rw [ey]
    rfl
  subst eT
  isplitl [Hw]; · iexact Hw
  isplitl [Hs]; · iexact Hs
  isplitl [Ht]; · iexact Ht
  isplitl [Hu]; · iexact Hu
  isplitl [H6]; · iexists _; iexact H6
  isplitl [H7]; · iexists _; iexact H7
  iexists _; iexact H8

end Triple

end Repack

end
-- ==== Proof.KernelRun.lean ====
/-
  The idealized kernel's run with every block named: what the pipeline writes back at each grid point.
-/
module

public import proofs.«01_k».proof.Proof.Gen.KernelIdeal.Frame.Runs
public import proofs.«01_k».proof.Proof.EqIdeal
public import proofs.«01_k».proof.Proof.Triple
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: after each grid point the inputs' buffers hold their blocks, the byte block is the regrouped one and the
    scales block is the input's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Repack.outBytes (iblk m c 0 t)
    | ⟨3, _⟩ => iblk m c 1 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Repack.outBytes (iblk m c 0 t) := by dsimp only [dats]
theorem after0_3 (c : Dev nD) (t : Fin cfg0.N) : (dats m 0 c).after 3 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at a grid point: `Repack.body_triple` at the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq, cc0_eq]
  iintro ⟨⟨⟨HS0, HS1, HS2⟩, Hg⟩, Ho, ⟨%d0, H0⟩, ⟨%d1, H1⟩, ⟨%d2, H2⟩, ⟨%d3, H3⟩⟩
  iapply (wp_wand_r _ _ _)
  isplitl [H0 H1 H2 H3 HS0 HS1 HS2]
  · iapply (Repack.body_triple (F := F) defs₀ Variants.none c none Set.univ (ms0_0 t) (ms0_1 t) (ms0_2 t) (hs0_2 t) (ms0_3 t)
      scM0_0 scM0_1 scM0_2 (iblk m c 0 t) (iblk m c 1 t)) $$ [H0 H1 H2 H3 HS0 HS1 HS2]
    isplitl [H0]; · iexact H0
    isplitl [H1]; · iexact H1
    isplitl [H2]; · iexists _; iexact H2
    isplitl [H3]; · iexists _; iexact H3
    isplitl [HS0]; · iexact HS0
    isplitl [HS1]; · iexact HS1
    iexact HS2
  iintro %u ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body does what the proof data says at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole program's run: every array at the proof data's contents, every other buffer as the host lines after the call
    leave it. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Run

end
-- ==== Proof.Bytes.lean ====
/-
  The repacked bytes as one function of the whole array of words, and the reference's bytes are that function.
-/
module

public import proofs.«01_k».proof.Proof.Bits
public import proofs.«01_k».proof.Proof.Gen.ReferenceIdeal.Run
public import Idealize.ShloMosaic.Lib.Pipeline.Value
public import Idealize.ShloMosaic.Lib.ValueIdxCoords

@[expose] public section

noncomputable section

namespace Repack

open Idealize.ShloMosaic hiding ix1 ix2 ix3 ix4 ix5 eq_ix1 eq_ix2 eq_ix3 eq_ix4 eq_ix5
open Idealize.ShloMosaic.ValueIdx
open Idealize.SL.Sem

/-- Byte `q` of word `k` of column block `b`: nibble `k % 8` of row `k / 8` of the words of the eight columns from `8 b`,
    side by side in a word, and of that word the byte. -/
def byteAt (x : Cert.ReferenceIdeal.S3x512x14336.Idx → BitVec 32) (a : Fin 3) (b : Fin 1792) (k : Fin 4096) (q : Fin 4) : BitVec 8 :=
  (gather (k.val % 8) (fun e => x (ix3 a (⟨k.val / 8, by omega⟩ : Fin 512) (⟨8 * b.val + e.val, by omega⟩ : Fin 14336))) >>> (8 * q.val)).setWidth 8

/-- The repacked bytes of an array of words. -/
def bytes (x : Cert.ReferenceIdeal.S3x512x14336.Idx → BitVec 32) : Cert.ReferenceIdeal.S3x1792x4096x4.Idx → BitVec 8 :=
  fun i => byteAt x (i 0) (i 1) (i 2) (i 3)

/-- A logical shift right by four times a field number. -/
theorem shrui4 (a : BitVec 32) (n : Nat) (h : n < 8) : IntOp.shrui .host a (IntOp.muli (BitVec.ofNat 32 n) 4#32) = a >>> (4 * n) := by
  interval_cases n <;> rfl

/-- A logical shift right by eight times a byte number. -/
theorem shrui8 (a : BitVec 32) (n : Nat) (h : n < 4) : IntOp.shrui .host a (IntOp.muli (BitVec.ofNat 32 n) 8#32) = a >>> (8 * n) := by
  interval_cases n <;> rfl

/-- A shift left by four times a word number. -/
theorem shli4 (a : BitVec 32) (n : Nat) (h : n < 8) : IntOp.shli .host a (BitVec.ofNat 32 (4 * n)) = a <<< (4 * n) := by
  interval_cases n <;> rfl

/-- A truncation to a byte sees only the byte. -/
theorem trunc_mask (a : BitVec 32) : (IntOp.andi a 255#32).setWidth 8 = a.setWidth 8 := by
  apply BitVec.eq_of_getLsbD_eq
  intro i hi
  have h255 : (255#32).getLsbD i = true := by interval_cases i <;> rfl
  rw [IntOp.andi, BitVec.getLsbD_setWidth, BitVec.getLsbD_setWidth, BitVec.getLsbD_and, h255, Bool.and_true]

open Cert.ReferenceIdeal Cert.ReferenceIdeal.Gen

/-- The reference's word `e` of every eight, every field of it shifted to nibble `e`. -/
theorem term_apply (x : S3x512x14336.Idx → BitVec 32) (e : Nat) (he : e < 8) (hs : S3x512x1792x8.Slices ![0, 0, 0, e] S3x512x1792x1)
    (a : Fin 3) (r : Fin 512) (b : Fin 1792) (f : Fin 8) :
    Host.shli (andi (Host.shrui (broadcastInDim S3x512x1792x8 ![0, 1, 2, 3] bcast_S3x512x1792x1_S3x512x1792x8_0_1_2_3
        (broadcastInDim S3x512x1792x1 ![0, 1, 2] bcast_S3x512x1792_S3x512x1792x1_0_1_2
          (shapeCast S3x512x1792 (extractStridedSlice S3x512x1792x1 ![0, 0, 0, e] (shapeCast S3x512x1792x8 x shapeCasts_S3x512x14336_S3x512x1792x8) hs)
            shapeCasts_S3x512x1792x1_S3x512x1792)))
        (broadcastInDim S3x512x1792x8 ![0, 1, 2, 3] bcast_S1x1x1x8_S3x512x1792x8_0_1_2_3 (broadcastInDim S1x1x1x8 ![3] bcast_S8_S1x1x1x8_3
          (muli (iotaInDim S8 32 0) (broadcastInDim S8 ![] bcast_S_S8 (constantI S_ 32 4#32))))))
        (broadcastInDim S3x512x1792x8 ![] bcast_S_S3x512x1792x8 (constantI S_ 32 15#32)))
        (broadcastInDim S3x512x1792x8 ![] bcast_S_S3x512x1792x8 (constantI S_ 32 (BitVec.ofNat 32 (4 * e)))) (ix4 a r b f)
      = field f.val e (x (ix3 a r (⟨8 * b.val + e, by omega⟩ : Fin 14336))) := by
  have ew : broadcastInDim S3x512x1792x8 ![0, 1, 2, 3] bcast_S3x512x1792x1_S3x512x1792x8_0_1_2_3
        (broadcastInDim S3x512x1792x1 ![0, 1, 2] bcast_S3x512x1792_S3x512x1792x1_0_1_2
          (shapeCast S3x512x1792 (extractStridedSlice S3x512x1792x1 ![0, 0, 0, e] (shapeCast S3x512x1792x8 x shapeCasts_S3x512x14336_S3x512x1792x8) hs)
            shapeCasts_S3x512x1792x1_S3x512x1792)) (ix4 a r b f)
      = x (ix3 a r (⟨8 * b.val + e, by omega⟩ : Fin 14336)) := by
    refine (broadcastInDim_apply _ _ _ _ (ix4 a r b (0 : Fin 1)) (fun d => by fin_cases d <;> rfl)).trans ?_
    refine (broadcastInDim_apply _ _ _ _ (ix3 a r b) (fun d => by fin_cases d <;> rfl)).trans ?_
    refine (shapeCast_apply _ _ _ (ix4 a r b (0 : Fin 1)) ?_).trans ?_
    · rw [Shape.rowMajor_val_four, Shape.rowMajor_val_three]; simp
    refine (extractStridedSlice_apply _ _ _ _ (ix4 a r b (⟨e, he⟩ : Fin 8)) (fun d => by fin_cases d <;> simp)).trans ?_
    refine shapeCast_apply _ _ _ (ix3 a r (⟨8 * b.val + e, by omega⟩ : Fin 14336)) ?_
    rw [Shape.rowMajor_val_four, Shape.rowMajor_val_three]
    simp
    ring
  show IntOp.shli .host (IntOp.andi (IntOp.shrui .host _ (IntOp.muli (BitVec.ofNat 32 f.val) 4#32)) 15#32) (BitVec.ofNat 32 (4 * e)) = _
  rw [ew, shrui4 _ _ f.isLt, shli4 _ _ he]
  rfl

/-- The reference's bytes of an array of words by row, column of eight and field. -/
theorem bytes_apply (acc : IVec S3x512x1792x8 32) (a : Fin 3) (b : Fin 1792) (k : Fin 4096) (q : Fin 4) :
    trunci 8 (andi (Host.shrui (broadcastInDim S3x1792x4096x4 ![0, 1, 2, 3] bcast_S3x1792x4096x1_S3x1792x4096x4_0_1_2_3
        (broadcastInDim S3x1792x4096x1 ![0, 1, 2] bcast_S3x1792x4096_S3x1792x4096x1_0_1_2
          (shapeCast S3x1792x4096 (transpose S3x1792x512x8 [0, 2, 1, 3] acc transposes_S3x512x1792x8_S3x1792x512x8_0_2_1_3)
            shapeCasts_S3x1792x512x8_S3x1792x4096)))
        (broadcastInDim S3x1792x4096x4 ![0, 1, 2, 3] bcast_S1x1x1x4_S3x1792x4096x4_0_1_2_3 (broadcastInDim S1x1x1x4 ![3] bcast_S4_S1x1x1x4_3
          (muli (iotaInDim S4 32 0) (broadcastInDim S4 ![] bcast_S_S4 (constantI S_ 32 8#32))))))
        (broadcastInDim S3x1792x4096x4 ![] bcast_S_S3x1792x4096x4 (constantI S_ 32 255#32))) natLt_8_32 (ix4 a b k q)
      = (acc (ix4 a (⟨k.val / 8, by omega⟩ : Fin 512) b (⟨k.val % 8, by omega⟩ : Fin 8)) >>> (8 * q.val)).setWidth 8 := by
  have ew : broadcastInDim S3x1792x4096x4 ![0, 1, 2, 3] bcast_S3x1792x4096x1_S3x1792x4096x4_0_1_2_3
        (broadcastInDim S3x1792x4096x1 ![0, 1, 2] bcast_S3x1792x4096_S3x1792x4096x1_0_1_2
          (shapeCast S3x1792x4096 (transpose S3x1792x512x8 [0, 2, 1, 3] acc transposes_S3x512x1792x8_S3x1792x512x8_0_2_1_3)
            shapeCasts_S3x1792x512x8_S3x1792x4096)) (ix4 a b k q)
      = acc (ix4 a (⟨k.val / 8, by omega⟩ : Fin 512) b (⟨k.val % 8, by omega⟩ : Fin 8)) := by
    refine (broadcastInDim_apply _ _ _ _ (ix4 a b k (0 : Fin 1)) (fun d => by fin_cases d <;> rfl)).trans ?_
    refine (broadcastInDim_apply _ _ _ _ (ix3 a b k) (fun d => by fin_cases d <;> rfl)).trans ?_
    refine (shapeCast_apply _ _ _ (ix4 a b (⟨k.val / 8, by omega⟩ : Fin 512) (⟨k.val % 8, by omega⟩ : Fin 8)) ?_).trans ?_
    · rw [Shape.rowMajor_val_four, Shape.rowMajor_val_three]; simp [ValueIdx.ix4_0, ValueIdx.ix4_1, ValueIdx.ix3_0, ValueIdx.ix3_1, ValueIdx.ix3_2]; omega
    exact transpose_apply _ _ _ _ (ix4 a (⟨k.val / 8, by omega⟩ : Fin 512) b (⟨k.val % 8, by omega⟩ : Fin 8)) (fun d => by fin_cases d <;> rfl)
  show (IntOp.andi (IntOp.shrui .host _ (IntOp.muli (BitVec.ofNat 32 q.val) 8#32)) 255#32).setWidth 8 = _
  rw [trunc_mask, shrui8 _ _ q.isLt, ew]

/-- Eight arrays joined by `or`, at an index. -/
theorem or8_apply (a0 a1 a2 a3 a4 a5 a6 a7 : IVec S3x512x1792x8 32) (j : S3x512x1792x8.Idx) (b0 b1 b2 b3 b4 b5 b6 b7 : BitVec 32)
    (h0 : a0 j = b0) (h1 : a1 j = b1) (h2 : a2 j = b2) (h3 : a3 j = b3) (h4 : a4 j = b4) (h5 : a5 j = b5) (h6 : a6 j = b6) (h7 : a7 j = b7) :
    ori (ori (ori (ori (ori (ori (ori a0 a1) a2) a3) a4) a5) a6) a7 j = b0 ||| b1 ||| b2 ||| b3 ||| b4 ||| b5 ||| b6 ||| b7 := by
  subst h0 h1 h2 h3 h4 h5 h6 h7; rfl

variable {F : FTy → Type} [FloatOps F]

/-- The reference's bytes. -/
theorem reference_bytes (m : (ℓ : Loc nD τ sig) → Buf (Elt F) ℓ) (c : Dev nD) :
    Cert.ReferenceIdeal.Value.res_main_v112 m c = bytes (m ((c.tc : Thread nD τ).loc main_arg0)) := by
  funext i
  obtain ⟨a, b, k, q, rfl⟩ : ∃ (a : Fin 3) (b : Fin 1792) (k : Fin 4096) (q : Fin 4), i = ix4 a b k q := ⟨i 0, i 1, i 2, i 3, eq_ix4 i⟩
  unfold Cert.ReferenceIdeal.Value.res_main_v112
  refine (bytes_apply _ a b k q).trans ?_
  refine congrArg (fun w : BitVec 32 => (w >>> (8 * q.val)).setWidth 8) ?_
  exact or8_apply _ _ _ _ _ _ _ _ _ _ _ _ _ _ _ _ _ (term_apply _ 0 (by decide) _ _ _ _ _) (term_apply _ 1 (by decide) _ _ _ _ _)
    (term_apply _ 2 (by decide) _ _ _ _ _) (term_apply _ 3 (by decide) _ _ _ _ _) (term_apply _ 4 (by decide) _ _ _ _ _)
    (term_apply _ 5 (by decide) _ _ _ _ _) (term_apply _ 6 (by decide) _ _ _ _ _) (term_apply _ 7 (by decide) _ _ _ _ _)

end Repack

end
-- ==== Proof.KernelBytes.lean ====
/-
  The arrays the idealized kernel leaves: the repacked bytes in the order the blocks store them, and the scales.
-/
module

public import proofs.«01_k».proof.Proof.KernelRun
public import proofs.«01_k».proof.Proof.Bytes
public import Idealize.ShloMosaic.Lib.BitcastPair
public import Idealize.ShloMosaic.Lib.Pipeline.ValueKit

@[expose] public section

set_option maxRecDepth 16384

noncomputable section

namespace Repack

open Idealize.ShloMosaic hiding ix1 ix2 ix3 ix4 ix5 eq_ix1 eq_ix2 eq_ix3 eq_ix4 eq_ix5
open Idealize.ShloMosaic.ValueIdx
open Idealize.SL.Sem

/-- Byte row `r` of a block of bytes is byte `r % 4` of word row `r / 4`. -/
theorem outBytes_apply (x : IVec S1x512x512 32) (r : Fin 8192) (l : Fin 128) :
    outBytes x (ix2 r l) = (out (words x) (r.val / 4) l.val >>> (8 * (r.val % 4))).setWidth 8 := by
  apply BitVec.eq_of_getLsbD_eq
  intro q hq
  have hrow : S8192x128.row (ix2 r l) = r.val := rfl
  unfold outBytes
  rw [bitcast_getLsbD _ _ _ _ hq (by decide)]
  have e1 : (S8192x128.row (ix2 r l) * 8 + q) / 32 = r.val / 4 := by rw [hrow]; omega
  have e2 : (S8192x128.row (ix2 r l) * 8 + q) % 32 = 8 * (r.val % 4) + q := by rw [hrow]; omega
  rw [e2, BitVec.getLsbD_setWidth, BitVec.getLsbD_ushiftRight, decide_eq_true hq, Bool.true_and]
  have es : bitcasts.srcIdx (ix2 r l) _ (fun a ha => (Nat.div_lt_iff_lt_mul (by decide : 0 < 32)).2 (bitcasts.pos_lt (ix2 r l) q hq a ha))
      = ix2 (⟨r.val / 4, by omega⟩ : Fin 2048) l := by
    funext a
    apply Fin.ext
    fin_cases a
    · exact (Shape.Bitcasts.srcIdx_row _ _ _ _ _ rfl).trans e1
    · exact Shape.Bitcasts.srcIdx_other _ _ _ _ _ (by decide)
  rw [es]
  rfl

end Repack

namespace Cert.KernelIdeal.Run

open Idealize.ShloMosaic hiding ix1 ix2 ix3 ix4 ix5 eq_ix1 eq_ix2 eq_ix3 eq_ix4 eq_ix5
open Idealize.ShloMosaic.ValueIdx
open Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The bytes in the order the blocks store them: 128 rows for each column block, four byte rows for each 128 words. -/
def packed (x : S3x512x14336.Idx → BitVec 32) : S688128x128.Idx → BitVec 8 := fun j =>
  have h0 : (j 0).val < 688128 := (j 0).isLt
  have h1 : (j 1).val < 128 := (j 1).isLt
  Repack.byteAt x ⟨(j 0).val / 128 / 1792, by omega⟩ ⟨(j 0).val / 128 % 1792, by omega⟩
    ⟨(j 0).val % 128 / 4 * 128 + (j 1).val, by omega⟩ ⟨(j 0).val % 4, by omega⟩

theorem index0 : ∀ t : Fin grid0.N, win0_0.index t = ![t.val / 28, 0, t.val % 28] := by decide +kernel
theorem index1 : ∀ t : Fin grid0.N, win0_1.index t = ![t.val / 28, 0, t.val % 28] := by decide +kernel
theorem index2 : ∀ t : Fin grid0.N, win0_2.index t = ![t.val, 0] := by decide +kernel
theorem index3 : ∀ t : Fin grid0.N, win0_3.index t = ![t.val / 28, 0, t.val % 28] := by decide +kernel

/-- The block of words at a grid point. -/
theorem words_iblk (c : Dev nD) (t : Fin cfg0.N) (r l : Nat) (hl : l < 512) (a : Fin 3) (ha : a.val = t.val / 28)
    (i : Fin 512) (hi : i.val = r) (k : Fin 14336) (hk : k.val = t.val % 28 * 512 + l) :
    Repack.words (iblk m c 0 t) r l = m ((c : Thread nD τ).loc main_arg0) (ix3 a i k) := by
  subst hi
  rw [Repack.words_apply _ _ _ i.isLt hl]
  blk_ext [iblk, V, index0 t]
  · exact ha.symm
  · exact hk.symm

/-- The bytes array after the run. -/
theorem arr2 (c : Dev nD) : (dats m 0 c).arrAt 2 cfg0.N = packed (m ((c : Thread nD τ).loc main_arg0)) := by
  refine (dats m 0 c).arrAt_eq_of_covers 2 _ (by decide +kernel) fun t hf y => ?_
  have hy0 : (y 0).val < 8192 := (y 0).isLt
  have hy1 : (y 1).val < 128 := (y 1).isLt
  have ht : t.val < 84 := t.isLt
  have e0 : (((cfg0.win 2).blk t).view.emb y 0).val = t.val * 8192 + (y 0).val := by blk_simp [index2 t]
  have e1 : (((cfg0.win 2).blk t).view.emb y 1).val = (y 1).val := by blk_simp [index2 t]
  generalize ((cfg0.win 2).blk t).view.emb y = z at e0 e1
  show (dats m 0 c).after 2 t ((cfg0.win 2).xinj (cfg0.grid.coords t) y) = _
  rw [after0_2]
  have ey : (cfg0.win 2).xinj (cfg0.grid.coords t) y = ix2 (⟨(y 0).val, hy0⟩ : Fin 8192) (⟨(y 1).val, hy1⟩ : Fin 128) := by
    funext a
    apply Fin.ext
    fin_cases a <;> rfl
  refine (congrArg (Repack.outBytes (iblk m c 0 t)) ey).trans ?_
  refine (Repack.outBytes_apply _ _ _).trans ?_
  rw [packed, Repack.byteAt, Repack.out]
  have h0 : (z 0).val < 688128 := (z 0).isLt
  refine congrArg (BitVec.setWidth 8) (congr (congrArg HShiftRight.hShiftRight (congr (congrArg Repack.gather ?_) (funext fun e => ?_))) ?_)
  · show (y 1).val % 8 = ((z 0).val % 128 / 4 * 128 + (z 1).val) % 8
    omega
  · have he : e.val < 8 := e.isLt
    refine words_iblk m c t _ _ ?_ _ ?_ _ ?_ _ ?_
    · show (y 0).val / 4 / 512 * 128 + (y 0).val / 4 % 512 / 32 * 8 + e.val < 512
      omega
    · show (z 0).val / 128 / 1792 = t.val / 28
      omega
    · show ((z 0).val % 128 / 4 * 128 + (z 1).val) / 8 = (y 0).val / 4 % 32 / 8 * 128 + (y 0).val / 4 % 8 * 16 + (y 1).val / 8
      omega
    · show 8 * ((z 0).val / 128 % 1792) + e.val = t.val % 28 * 512 + ((y 0).val / 4 / 512 * 128 + (y 0).val / 4 % 512 / 32 * 8 + e.val)
      omega
  · show 8 * ((y 0).val % 4) = 8 * ((z 0).val % 4)
    omega

/-- The scales array after the run. -/
theorem arr3 (c : Dev nD) : (dats m 0 c).arrAt 3 cfg0.N = m ((c : Thread nD τ).loc main_arg1) := by
  refine (dats m 0 c).arrAt_eq_of_covers 3 _ (by decide +kernel) fun t hf y => ?_
  blk_simp
  rw [after0_3]
  blk_ext [iblk, V, index1 t, index3 t]

/-- The packed bytes, in the order of the result. -/
theorem packed_unpacked (x : S3x512x14336.Idx → BitVec 32) :
    shapeCast S3x1792x4096x4 (transpose S3x1792x32x128x4 [0, 1, 2, 4, 3] (shapeCast S3x1792x32x4x128 (packed x) shapeCasts_S688128x128_S3x1792x32x4x128)
        transposes_S3x1792x32x4x128_S3x1792x32x128x4_0_1_2_4_3) shapeCasts_S3x1792x32x128x4_S3x1792x4096x4
      = Repack.bytes x := by
  funext i
  obtain ⟨a, b, k, q, rfl⟩ : ∃ (a : Fin 3) (b : Fin 1792) (k : Fin 4096) (q : Fin 4), i = ix4 a b k q := ⟨i 0, i 1, i 2, i 3, eq_ix4 i⟩
  refine (shapeCast_apply _ _ _ (ix5 a b (⟨k.val / 128, by omega⟩ : Fin 32) (⟨k.val % 128, by omega⟩ : Fin 128) q) ?_).trans ?_
  · rw [Shape.rowMajor_val_five, Shape.rowMajor_val_four]
    simp [ValueIdx.ix4_0, ValueIdx.ix4_1, ValueIdx.ix4_2, ValueIdx.ix4_3, ValueIdx.ix5_0, ValueIdx.ix5_1, ValueIdx.ix5_2, ValueIdx.ix5_3, ValueIdx.ix5_4]
    omega
  refine (transpose_apply _ _ _ _ (ix5 a b (⟨k.val / 128, by omega⟩ : Fin 32) q (⟨k.val % 128, by omega⟩ : Fin 128)) (fun d => by fin_cases d <;> rfl)).trans ?_
  have hr : ((a.val * 1792 + b.val) * 32 + k.val / 128) * 4 + q.val < 688128 := by omega
  refine (shapeCast_apply _ _ _ (ix2 (⟨((a.val * 1792 + b.val) * 32 + k.val / 128) * 4 + q.val, hr⟩ : Fin 688128) (⟨k.val % 128, by omega⟩ : Fin 128)) ?_).trans ?_
  · rw [Shape.rowMajor_val_five, Shape.rowMajor_val_two]
    rfl
  show Repack.byteAt x _ _ _ _ = Repack.byteAt x a b k q
  congr 1 <;> apply Fin.ext
  · show (((a.val * 1792 + b.val) * 32 + k.val / 128) * 4 + q.val) / 128 / 1792 = a.val
    omega
  · show (((a.val * 1792 + b.val) * 32 + k.val / 128) * 4 + q.val) / 128 % 1792 = b.val
    omega
  · show (((a.val * 1792 + b.val) * 32 + k.val / 128) * 4 + q.val) % 128 / 4 * 128 + k.val % 128 = k.val
    omega
  · show (((a.val * 1792 + b.val) * 32 + k.val / 128) * 4 + q.val) % 4 = q.val
    omega

variable (ρ : Dev nD → PrngReg)

set_option maxHeartbeats 800000 in
/-- The run of the idealized kernel: the repacked bytes, the transposed scales, the arguments unchanged. -/
theorem run : θ_run defs (onTc (τ := τ) (main (F := F))) ⟨m, fun _ => 0, ρ⟩ fun r => ∀ c : Dev nD,
      r.2.mem ((c.tc : Thread nD τ).loc main_v3) = Repack.bytes (m ((c.tc : Thread nD τ).loc main_arg0))
      ∧ r.2.mem ((c.tc : Thread nD τ).loc main_v4)
        = transpose S3x14336x32 [0, 2, 1] (m ((c.tc : Thread nD τ).loc main_arg1)) transposes_S3x32x14336_S3x14336x32_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have tail (c : Dev nD) : ∃ W : Valuation τ sig (Elt F),
      W (Proc.devRef .tc main_v0_0) = packed (m ((c.tc : Thread nD τ).loc main_arg0))
      ∧ W (Proc.devRef .tc main_v0_1) = m ((c.tc : Thread nD τ).loc main_arg1)
      ∧ ∀ b, Pipeline.afterTail₀ cfgs (dats m) 0 (V0 m) [hostOps1] c b = StableHlo.after hostOps1 W (Proc.devRef .tc b) :=
    ⟨Pipeline.withArrays spec0 c (V0 m c) fun w => (dats m 0 c).arrAt w cfg0.N,
      (Pipeline.withArrays_arr spec0 launch0.win.arr_inj c _ _ 2).trans (arr2 m c),
      (Pipeline.withArrays_arr spec0 launch0.win.arr_inj c _ _ 3).trans (arr3 m c), fun b => rfl⟩
  run_from run_main m ρ
  · obtain ⟨W, h2, h3, hb⟩ := tail c
    rw [hb]
    refine Eq.trans ?_ (packed_unpacked _)
    rw [← h2]
    after_results_simp
    rfl
  · obtain ⟨W, h2, h3, hb⟩ := tail c
    rw [hb, ← h3]
    after_results_simp

end Cert.KernelIdeal.Run

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelBytes
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- From the same arguments, the idealized kernel and the idealized reference end with the same bytes
    and the same scales. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, Cert.KernelIdeal.Run.run m g, ?_⟩
  refine (θ_run _ _ _).mono (fun r h c => ⟨?_, ?_, (h c).2.2.1, (h c).2.2.2⟩) (Cert.ReferenceIdeal.Value.run m' g')
  · exact ((h c).1.trans (Repack.reference_bytes m' c)).trans (congrArg Repack.bytes (hagree c).1)
  · exact (h c).2.1.trans
      (congrArg (fun x => transpose Cert.ReferenceIdeal.S3x14336x32 [0, 2, 1] x
        Cert.ReferenceIdeal.Gen.transposes_S3x32x14336_S3x14336x32_0_2_1) (hagree c).2)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2.2, sem_eq_zero_of_no_sems rfl r.2⟩) (Cert.ReferenceIdeal.Value.run m ρ),
  trivial, algebraic⟩

end Cert.Proof

end
